-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v38)) (v1 : (c : Dev Cert.KernelIdeal.nD) → Buf (Elt Ideal) ((c.tc : Thread Cert.KernelIdeal.nD Cert.KernelIdeal.τ).loc Cert.KernelIdeal.main_v37)) (v2 : (c : Dev Cert.KernelIdeal.nD) → Buf (Elt Ideal) ((c.tc : Thread Cert.KernelIdeal.nD Cert.KernelIdeal.τ).loc Cert.KernelIdeal.main_v3)) (v3 : (c : Dev Cert.KernelIdeal.nD) → Buf (Elt Ideal) ((c.tc : Thread Cert.KernelIdeal.nD Cert.KernelIdeal.τ).loc Cert.KernelIdeal.main_v39)) (v4 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_v37) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_v39) = v3 c
          ∧ r.2.mem ((c.tc : Thread Cert.KernelIdeal.nD Cert.KernelIdeal.τ).loc Cert.KernelIdeal.main_v24) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v2) = v2 c
          ∧ r.2.mem ((c.tc : Thread Cert.ReferenceIdeal.nD Cert.ReferenceIdeal.τ).loc Cert.ReferenceIdeal.main_v31_0) = v3 c
          ∧ r.2.mem ((c.tc : Thread Cert.ReferenceIdeal.nD Cert.ReferenceIdeal.τ).loc Cert.ReferenceIdeal.main_v23) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x3072x10240 : Shape := ⟨3, ![4, 3072, 10240]⟩
abbrev S4x3072x8192 : Shape := ⟨3, ![4, 3072, 8192]⟩
abbrev S_ : Shape := ⟨0, ![]⟩
abbrev S10240x8192 : Shape := ⟨2, ![10240, 8192]⟩
abbrev S12288x10240 : Shape := ⟨2, ![12288, 10240]⟩
abbrev S12288x8192 : Shape := ⟨2, ![12288, 8192]⟩
abbrev S1x1 : Shape := ⟨2, ![1, 1]⟩
abbrev S512x10240 : Shape := ⟨2, ![512, 10240]⟩
abbrev S16x10240 : Shape := ⟨2, ![16, 10240]⟩
abbrev S32x16x10240 : Shape := ⟨3, ![32, 16, 10240]⟩
abbrev S1x16x10240 : Shape := ⟨3, ![1, 16, 10240]⟩
abbrev S1 : Shape := ⟨1, ![1]⟩
abbrev S1x1x1 : Shape := ⟨3, ![1, 1, 1]⟩
abbrev S254 : Shape := ⟨1, ![254]⟩
abbrev S3 : Shape := ⟨1, ![3]⟩
abbrev S1x3 : Shape := ⟨2, ![1, 3]⟩
abbrev S10240x12288 : Shape := ⟨2, ![10240, 12288]⟩
abbrev S1024x640 : Shape := ⟨2, ![1024, 640]⟩
abbrev S10240x512 : Shape := ⟨2, ![10240, 512]⟩
abbrev S1024x512 : Shape := ⟨2, ![1024, 512]⟩
abbrev S640x1024 : Shape := ⟨2, ![640, 1024]⟩
abbrev S2x1024x10240 : Shape := ⟨3, ![2, 1024, 10240]⟩
abbrev S1x1024x640 : Shape := ⟨3, ![1, 1024, 640]⟩
abbrev S1x1024x10240 : Shape := ⟨3, ![1, 1024, 10240]⟩
abbrev S1024x10240 : Shape := ⟨2, ![1024, 10240]⟩
abbrev S1024x12288 : Shape := ⟨2, ![1024, 12288]⟩
abbrev S12288x512 : Shape := ⟨2, ![12288, 512]⟩

abbrev nBuf : Space → Nat
  | .hbm => 64
  | .vmem => 22
  | .smem => 3
  | _ => 0

abbrev bufTy : (tb : Table) → Fin (tcTables nBuf tb) → BufTy
  | .hbm, ⟨0, _⟩ => ⟨S4x3072x10240, .bf16⟩
  | .hbm, ⟨1, _⟩ => ⟨S4x3072x8192, .fp8e4m3⟩
  | .hbm, ⟨2, _⟩ => ⟨S_, .f32⟩
  | .hbm, ⟨3, _⟩ => ⟨S10240x8192, .fp8e4m3⟩
  | .hbm, ⟨4, _⟩ => ⟨S_, .f32⟩
  | .hbm, ⟨5, _⟩ => ⟨S10240x8192, .f32⟩
  | .hbm, ⟨6, _⟩ => ⟨S12288x10240, .bf16⟩
  | .hbm, ⟨7, _⟩ => ⟨S12288x8192, .fp8e4m3⟩
  | .hbm, ⟨8, _⟩ => ⟨S1x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S254, .i32⟩
  | .hbm, ⟨13, _⟩ => ⟨S_, .i32⟩
  | .hbm, ⟨14, _⟩ => ⟨S254, .i32⟩
  | .hbm, ⟨15, _⟩ => ⟨S254, .i32⟩
  | .hbm, ⟨16, _⟩ => ⟨S_, .i32⟩
  | .hbm, ⟨17, _⟩ => ⟨S254, .i32⟩
  | .hbm, ⟨18, _⟩ => ⟨S254, .i32⟩
  | .hbm, ⟨19, _⟩ => ⟨S254, .f32⟩
  | .hbm, ⟨20, _⟩ => ⟨S254, .f32⟩
  | .hbm, ⟨21, _⟩ => ⟨S254, .i1⟩
  | .hbm, ⟨22, _⟩ => ⟨S254, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .f32⟩
  | .hbm, ⟨28, _⟩ => ⟨S_, .i1⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .f32⟩
  | .hbm, ⟨36, _⟩ => ⟨S_, .i1⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .f32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S1, .f32⟩
  | .hbm, ⟨54, _⟩ => ⟨S1, .f32⟩
  | .hbm, ⟨55, _⟩ => ⟨S1, .f32⟩
  | .hbm, ⟨56, _⟩ => ⟨S3, .f32⟩
  | .hbm, ⟨57, _⟩ => ⟨S1x3, .f32⟩
  | .hbm, ⟨58, _⟩ => ⟨S12288x8192, .bf16⟩
  | .hbm, ⟨59, _⟩ => ⟨S12288x10240, .fp8e5m2⟩
  | .hbm, ⟨60, _⟩ => ⟨S10240x12288, .fp8e5m2⟩
  | .hbm, ⟨61, _⟩ => ⟨S10240x8192, .f32⟩
  | .hbm, ⟨62, _⟩ => ⟨S4x3072x8192, .bf16⟩
  | .hbm, ⟨63, _⟩ => ⟨S4x3072x10240, .fp8e5m2⟩
  | .local _ .vmem, ⟨0, _⟩ => ⟨S512x10240, .bf16⟩
  | .local _ .vmem, ⟨1, _⟩ => ⟨S512x10240, .bf16⟩
  | .local _ .vmem, ⟨2, _⟩ => ⟨S16x10240, .bf16⟩
  | .local _ .vmem, ⟨3, _⟩ => ⟨S1024x640, .bf16⟩
  | .local _ .vmem, ⟨4, _⟩ => ⟨S1024x640, .bf16⟩
  | .local _ .vmem, ⟨5, _⟩ => ⟨S10240x512, .fp8e4m3⟩
  | .local _ .vmem, ⟨6, _⟩ => ⟨S10240x512, .fp8e4m3⟩
  | .local _ .vmem, ⟨7, _⟩ => ⟨S1024x512, .bf16⟩
  | .local _ .vmem, ⟨8, _⟩ => ⟨S1024x512, .bf16⟩
  | .local _ .vmem, ⟨9, _⟩ => ⟨S1024x640, .fp8e5m2⟩
  | .local _ .vmem, ⟨10, _⟩ => ⟨S1024x640, .fp8e5m2⟩
  | .local _ .vmem, ⟨11, _⟩ => ⟨S640x1024, .fp8e5m2⟩
  | .local _ .vmem, ⟨12, _⟩ => ⟨S640x1024, .fp8e5m2⟩
  | .local _ .vmem, ⟨13, _⟩ => ⟨S2x1024x10240, .fp8e5m2⟩
  | .local _ .vmem, ⟨14, _⟩ => ⟨S1024x12288, .fp8e5m2⟩
  | .local _ .vmem, ⟨15, _⟩ => ⟨S1024x12288, .fp8e5m2⟩
  | .local _ .vmem, ⟨16, _⟩ => ⟨S12288x512, .fp8e4m3⟩
  | .local _ .vmem, ⟨17, _⟩ => ⟨S12288x512, .fp8e4m3⟩
  | .local _ .vmem, ⟨18, _⟩ => ⟨S1024x512, .f32⟩
  | .local _ .vmem, ⟨19, _⟩ => ⟨S1024x512, .f32⟩
  | .local _ .vmem, ⟨20, _⟩ => ⟨S1024x512, .f32⟩
  | .local _ .vmem, ⟨21, _⟩ => ⟨S1024x512, .f32⟩
  | .local _ .smem, ⟨0, _⟩ => ⟨S1x1, .f32⟩
  | .local _ .smem, ⟨1, _⟩ => ⟨S1x3, .f32⟩
  | .local _ .smem, ⟨2, _⟩ => ⟨S1x3, .f32⟩
  | _, _ => ⟨S4x3072x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_c_5 : Ref sig .tc := ⟨.hbm, 32, rfl⟩
abbrev main_call0_v0 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_c_7 : Ref sig .tc := ⟨.hbm, 37, rfl⟩
abbrev main_call1_v0 : Ref sig .tc := ⟨.hbm, 38, rfl⟩
abbrev main_v21 : Ref sig .tc := ⟨.hbm, 39, rfl⟩
abbrev main_c_8 : Ref sig .tc := ⟨.hbm, 40, rfl⟩
abbrev main_v22 : Ref sig .tc := ⟨.hbm, 41, rfl⟩
abbrev main_c_9 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_10 : Ref sig .tc := ⟨.hbm, 46, rfl⟩
abbrev main_v26 : Ref sig .tc := ⟨.hbm, 47, rfl⟩
abbrev main_c_11 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36_0 : Ref sig .tc := ⟨.hbm, 58, rfl⟩
abbrev main_v36_1 : Ref sig .tc := ⟨.hbm, 59, rfl⟩
abbrev main_v36_2 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc1_stg1_0 : Ref sig .tc := ⟨.vmem, 3, rfl⟩
abbrev cc1_stg1_1 : Ref sig .tc := ⟨.vmem, 4, rfl⟩
abbrev cc1_stg2_0 : Ref sig .tc := ⟨.vmem, 5, rfl⟩
abbrev cc1_stg2_1 : Ref sig .tc := ⟨.vmem, 6, rfl⟩
abbrev cc1_stg3_0 : Ref sig .tc := ⟨.vmem, 7, rfl⟩
abbrev cc1_stg3_1 : Ref sig .tc := ⟨.vmem, 8, rfl⟩
abbrev cc1_stg4_0 : Ref sig .tc := ⟨.vmem, 9, rfl⟩
abbrev cc1_stg4_1 : Ref sig .tc := ⟨.vmem, 10, rfl⟩
abbrev cc1_stg5_0 : Ref sig .tc := ⟨.vmem, 11, rfl⟩
abbrev cc1_stg5_1 : Ref sig .tc := ⟨.vmem, 12, rfl⟩
abbrev cc1_scratch0 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc0_stg1_0 : Ref sig .tc := ⟨.smem, 0, rfl⟩
abbrev cc1_stg0_0 : Ref sig .tc := ⟨.smem, 1, rfl⟩
abbrev cc2_stg0_0 : Ref sig .tc := ⟨.smem, 2, rfl⟩
abbrev cc0_sem0_0 : DmaSem sig := 0
abbrev cc0_sem0_1 : DmaSem sig := 1
abbrev cc0_sem1_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc1_sem4_1 : DmaSem sig := 11
abbrev cc1_sem5_0 : DmaSem sig := 12
abbrev cc1_sem5_1 : DmaSem sig := 13
abbrev cc2_sem0_0 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc2_sem4_0 : DmaSem sig := 21
abbrev cc2_sem4_1 : DmaSem sig := 22

abbrev nD : Nat := 1
abbrev τ : Topo := Topo.v7x

variable {F : FTy → Type} [FloatOps F]

abbrev grid0 : Pipeline.Grid := ⟨1, ![24], ![false]⟩

def k0_cond3 (i : grid0.Coords) : BitVec 1 :=
  let arg0 : BitVec 32 := BitVec.ofNat 32 (i 0).val
  let c23_i32 : BitVec 32 := 23#32
  let v11 : BitVec 1 := Scalar.cmpi .eq arg0 c23_i32
  let v12 : BitVec 32 := Scalar.extui v11
  let c0_i32_4 : BitVec 32 := 0#32
  let v13 : BitVec 1 := Scalar.cmpi .ne v12 c0_i32_4
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x10240 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨2, ![13, 16], ![false, false]⟩

def k1_cond1 (i : grid1.Coords) : BitVec 1 :=
  let arg0 : BitVec 32 := BitVec.ofNat 32 (i 0).val
  let c12_i32 : BitVec 32 := 12#32
  let v0 : BitVec 1 := Scalar.cmpi .slt arg0 c12_i32
  let v1 : BitVec 32 := Scalar.extui v0
  let c0_i32 : BitVec 32 := 0#32
  let v2 : BitVec 1 := Scalar.cmpi .ne v1 c0_i32
  v2

def k1_off1 (i : grid1.Coords) : Fin 3 → Nat :=
  let arg0 : BitVec 32 := BitVec.ofNat 32 (i 0).val
  let c2_i32 : BitVec 32 := 2#32
  let c0_i32_10 : BitVec 32 := 0#32
  let v20 : BitVec 1 := Scalar.cmpi .eq c2_i32 c0_i32_10
  let c1_i32 : BitVec 32 := 1#32
  let v21 : BitVec 32 := Scalar.select v20 c1_i32 c2_i32
  let v22 : BitVec 32 := Scalar.remsi arg0 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v31 : Index := Scalar.indexCast v29
  let c0_14 : Index := 0#32
  let arg1 : BitVec 32 := BitVec.ofNat 32 (i 1).val
  let c640_i32 : BitVec 32 := 640#32
  let v30 : BitVec 32 := Scalar.muli arg1 c640_i32
  let v32 : Index := Scalar.indexCast v30
  ![v31.toNat, 0, v32.toNat]
def k1_cond2 (i : grid1.Coords) : BitVec 1 :=
  let arg0 : BitVec 32 := BitVec.ofNat 32 (i 0).val
  let c0_i32_0 : BitVec 32 := 0#32
  let v3 : BitVec 1 := Scalar.cmpi .sgt arg0 c0_i32_0
  let v4 : BitVec 32 := Scalar.extui v3
  let c0_i32_1 : BitVec 32 := 0#32
  let v5 : BitVec 1 := Scalar.cmpi .ne v4 c0_i32_1
  v5

def k1_off2 (i : grid1.Coords) : Fin 3 → Nat :=
  let arg0 : BitVec 32 := BitVec.ofNat 32 (i 0).val
  let c1_i32 : BitVec 32 := 1#32
  let v6 : BitVec 32 := Scalar.addi arg0 c1_i32
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v17 : Index := Scalar.indexCast v16
  let c0 : Index := 0#32
  let c0_7 : Index := 0#32
  ![v17.toNat, 0, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.minsi arg0 c11_i32
  let c12_i32 : BitVec 32 := 12#32
  let v1 : BitVec 1 := Scalar.cmpi .slt arg0 c12_i32
  let c15_i32 : BitVec 32 := 15#32
  let v2 : BitVec 32 := Scalar.select v1 arg1 c15_i32
  let c0_i32 : BitVec 32 := 0#32
  ![v0.toNat, v2.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c0_i32_1 : BitVec 32 := 0#32
  let c0_i32_2 : BitVec 32 := 0#32
  ![c0_i32_1.toNat, v1.toNat]

def cc1_transform_3 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c0_i32_1 : BitVec 32 := 0#32
  let v3 : BitVec 32 := Scalar.select v2 arg1 c0_i32_1
  let c0_i32_2 : BitVec 32 := 0#32
  ![v1.toNat, v3.toNat]

def cc1_transform_4 (i : grid1.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.minsi arg0 c11_i32
  let c12_i32 : BitVec 32 := 12#32
  let v1 : BitVec 1 := Scalar.cmpi .slt arg0 c12_i32
  let c15_i32 : BitVec 32 := 15#32
  let v2 : BitVec 32 := Scalar.select v1 arg1 c15_i32
  let c0_i32 : BitVec 32 := 0#32
  ![v0.toNat, v2.toNat]

def cc1_transform_5 (i : grid1.Coords) : Fin 2 → Nat :=
  let arg0 : BitVec 32 := BitVec.ofNat 32 (i 0).val
  let arg1 : BitVec 32 := BitVec.ofNat 32 (i 1).val
  let c12_i32 : BitVec 32 := 12#32
  let v0 : BitVec 1 := Scalar.cmpi .slt arg0 c12_i32
  let c15_i32 : BitVec 32 := 15#32
  let v1 : BitVec 32 := Scalar.select v0 arg1 c15_i32
  let c11_i32 : BitVec 32 := 11#32
  let v2 : BitVec 32 := Scalar.minsi arg0 c11_i32
  let c0_i32 : BitVec 32 := 0#32
  ![v1.toNat, v2.toNat]

abbrev stage1_0 : Fin 1 → Memref sig .tc .smem S1x3 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1024x640 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S10240x512 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x640 .fp8e5m2 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S640x1024 .fp8e5m2 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![10, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .smem S1x3 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S1024x12288 .fp8e5m2 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S12288x512 .fp8e4m3 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1024x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]
-- ==== ReferenceIdeal.lean ====
abbrev S4x3072x10240 : Shape := ⟨3, ![4, 3072, 10240]⟩
abbrev S4x3072x8192 : Shape := ⟨3, ![4, 3072, 8192]⟩
abbrev S_ : Shape := ⟨0, ![]⟩
abbrev S10240x8192 : Shape := ⟨2, ![10240, 8192]⟩
abbrev S254 : Shape := ⟨1, ![254]⟩

abbrev nBuf : Space → Nat
  | .hbm => 75
  | .vmem => 7
  | .smem => 0
  | _ => 0

abbrev bufTy : (tb : Table) → Fin (tcTables nBuf tb) → BufTy
  | .hbm, ⟨0, _⟩ => ⟨S4x3072x10240, .bf16⟩
  | .hbm, ⟨1, _⟩ => ⟨S4x3072x8192, .fp8e4m3⟩
  | .hbm, ⟨2, _⟩ => ⟨S_, .f32⟩
  | .hbm, ⟨3, _⟩ => ⟨S10240x8192, .fp8e4m3⟩
  | .hbm, ⟨4, _⟩ => ⟨S_, .f32⟩
  | .hbm, ⟨5, _⟩ => ⟨S10240x8192, .f32⟩
  | .hbm, ⟨6, _⟩ => ⟨S4x3072x10240, .f32⟩
  | .hbm, ⟨7, _⟩ => ⟨S4x3072x10240, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S254, .i32⟩
  | .hbm, ⟨13, _⟩ => ⟨S_, .i32⟩
  | .hbm, ⟨14, _⟩ => ⟨S254, .i32⟩
  | .hbm, ⟨15, _⟩ => ⟨S254, .i32⟩
  | .hbm, ⟨16, _⟩ => ⟨S_, .i32⟩
  | .hbm, ⟨17, _⟩ => ⟨S254, .i32⟩
  | .hbm, ⟨18, _⟩ => ⟨S254, .i32⟩
  | .hbm, ⟨19, _⟩ => ⟨S254, .f32⟩
  | .hbm, ⟨20, _⟩ => ⟨S254, .f32⟩
  | .hbm, ⟨21, _⟩ => ⟨S254, .i1⟩
  | .hbm, ⟨22, _⟩ => ⟨S254, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .f32⟩
  | .hbm, ⟨28, _⟩ => ⟨S_, .i1⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .f32⟩
  | .hbm, ⟨36, _⟩ => ⟨S_, .i1⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .f32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .f32⟩
  | .hbm, ⟨51, _⟩ => ⟨S4x3072x10240, .f32⟩
  | .hbm, ⟨52, _⟩ => ⟨S4x3072x10240, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S4x3072x10240, .f32⟩
  | .hbm, ⟨57, _⟩ => ⟨S4x3072x10240, .f32⟩
  | .hbm, ⟨58, _⟩ => ⟨S_, .f32⟩
  | .hbm, ⟨59, _⟩ => ⟨S4x3072x10240, .f32⟩
  | .hbm, ⟨60, _⟩ => ⟨S4x3072x10240, .f32⟩
  | .hbm, ⟨61, _⟩ => ⟨S4x3072x10240, .fp8e5m2⟩
  | .hbm, ⟨62, _⟩ => ⟨S4x3072x10240, .bf16⟩
  | .hbm, ⟨63, _⟩ => ⟨S10240x8192, .bf16⟩
  | .hbm, ⟨64, _⟩ => ⟨S4x3072x8192, .bf16⟩
  | .hbm, ⟨65, _⟩ => ⟨S4x3072x8192, .f32⟩
  | .hbm, ⟨66, _⟩ => ⟨S_, .f32⟩
  | .hbm, ⟨67, _⟩ => ⟨S4x3072x8192, .f32⟩
  | .hbm, ⟨68, _⟩ => ⟨S4x3072x8192, .f32⟩
  | .hbm, ⟨69, _⟩ => ⟨S4x3072x8192, .bf16⟩
  | .hbm, ⟨70, _⟩ => ⟨S10240x8192, .f32⟩
  | .hbm, ⟨71, _⟩ => ⟨S_, .f32⟩
  | .hbm, ⟨72, _⟩ => ⟨S10240x8192, .f32⟩
  | .hbm, ⟨73, _⟩ => ⟨S10240x8192, .f32⟩
  | .hbm, ⟨74, _⟩ => ⟨S10240x8192, .f32⟩
  | .local _ .vmem, ⟨0, _⟩ => ⟨S4x3072x10240, .f32⟩
  | .local _ .vmem, ⟨1, _⟩ => ⟨S10240x8192, .fp8e4m3⟩
  | .local _ .vmem, ⟨2, _⟩ => ⟨S4x3072x8192, .fp8e4m3⟩
  | .local _ .vmem, ⟨3, _⟩ => ⟨S4x3072x10240, .fp8e5m2⟩
  | .local _ .vmem, ⟨4, _⟩ => ⟨S4x3072x10240, .bf16⟩
  | .local _ .vmem, ⟨5, _⟩ => ⟨S10240x8192, .bf16⟩
  | .local _ .vmem, ⟨6, _⟩ => ⟨S4x3072x8192, .bf16⟩
  | _, _ => ⟨S4x3072x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_c_5 : Ref sig .tc := ⟨.hbm, 30, rfl⟩
abbrev main_v17 : Ref sig .tc := ⟨.hbm, 31, rfl⟩
abbrev main_c_6 : Ref sig .tc := ⟨.hbm, 32, rfl⟩
abbrev main_call0_v0 : Ref sig .tc := ⟨.hbm, 33, rfl⟩
abbrev main_v18 : Ref sig .tc := ⟨.hbm, 34, rfl⟩
abbrev main_cst_7 : Ref sig .tc := ⟨.hbm, 35, rfl⟩
abbrev main_v19 : Ref sig .tc := ⟨.hbm, 36, rfl⟩
abbrev main_c_8 : Ref sig .tc := ⟨.hbm, 37, rfl⟩
abbrev main_call1_v0 : Ref sig .tc := ⟨.hbm, 38, rfl⟩
abbrev main_v20 : Ref sig .tc := ⟨.hbm, 39, rfl⟩
abbrev main_c_9 : Ref sig .tc := ⟨.hbm, 40, rfl⟩
abbrev main_v21 : Ref sig .tc := ⟨.hbm, 41, rfl⟩
abbrev main_c_10 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_11 : Ref sig .tc := ⟨.hbm, 46, rfl⟩
abbrev main_v25 : Ref sig .tc := ⟨.hbm, 47, rfl⟩
abbrev main_c_12 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_13 : Ref sig .tc := ⟨.hbm, 53, rfl⟩
abbrev main_cst_14 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_v30 : Ref sig .tc := ⟨.hbm, 60, rfl⟩
abbrev main_v31_0 : Ref sig .tc := ⟨.hbm, 61, rfl⟩
abbrev main_v31_1 : Ref sig .tc := ⟨.hbm, 62, rfl⟩
abbrev main_v31_2 : Ref sig .tc := ⟨.hbm, 63, rfl⟩
abbrev main_v31_3 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x3072x10240 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10240x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x3072x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x3072x10240 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x3072x10240 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S10240x8192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x3072x8192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Run.Common.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit
public import Idealize.ShloMosaic.Lib.WritesUnit
public import Idealize.ShloMosaic.Lib.VecWindow
public import Idealize.ShloMosaic.Lib.Pointwise.Index
public import Idealize.ShloMosaic.Lib.Pipeline.ValueKit.Acc
public import Idealize.ShloMosaic.Lib.WholeRead
public import Idealize.ShloMosaic.Lib.Pointwise
public import Idealize.ShloMosaic.Lib.Pipeline.TableIdle

@[expose] public section

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-- Entry `k` of the row of three scalars: the quantisation factor, and the two scale products. -/
def scal (x0 : Vec F S1x3 .f32) (k : Fin 3) : Elt F .f32 := x0 (ix2 0 k)

/-- A load of a whole buffer reads its contents. -/
theorem load_whole {sp : Space} {s : Shape} {e : EltTy} {arg : Memref sig .tc sp s e} (harg : arg.IsWhole) {off : Fin s.rank → ℕ} (h0 : ∀ a, off a = 0)
    (inb : ∀ a, off a + s.size a ≤ s.size a) (x : s.Idx → Elt F e) :
    View.readAt (Elt F) arg.view (Rect.unit off s.size inb).toLoadRect (harg.unread x) = x := by
  simp (disch := exact h0) only [View.ld_unit_lit', View.readAt_eq_ld, Memref.IsWhole.read_unread]

/-- A store over a whole buffer leaves what was stored. -/
theorem store_whole {sp : Space} {s : Shape} {e : EltTy} {arg : Memref sig .tc sp s e} (f : arg.view.ty.Contents (Elt F)) {off : Fin s.rank → ℕ} (h0 : ∀ a, off a = 0)
    (inb : ∀ a, off a + s.size a ≤ s.size a) (w : s.Idx → Elt F e) :
    View.read (Elt F) arg.view (arg.view.writes (Elt F) f [⟨Rect.unit off s.size inb, w⟩]) = w := by
  funext y
  exact View.read_writes_cons_unit_of_mem arg.view f inb w [] y y (funext h0) (fun a => (Nat.zero_add _).symm)

/-- A scalar load from the row of three scalars. -/
theorem load_scal {arg : Memref sig .tc .smem S1x3 .f32} (harg : arg.IsWhole) (x0 : Vec F S1x3 .f32) (k : Fin 3) {n : ℕ} (hn : n = k.val)
    (inb : ∀ a, (![0, n] : Fin 2 → ℕ) a + S1x1.size a ≤ S1x3.size a) (x : (Rect.unit (s := S1x3) ![0, n] S1x1.size inb).toLoadRect.shape.Idx) :
    View.readAt (Elt F) arg.view (Rect.unit (s := S1x3) ![0, n] S1x1.size inb).toLoadRect (harg.unread x0) x = scal x0 k := by
  subst hn
  rw [harg.readAt_unread]
  unfold scal
  congr 1
  funext a
  fin_cases a
  · exact Fin.ext (by have := (x 0).isLt; show 0 + 1 * (x 0).val = 0; have h : (x 0).val < 1 := this; omega)
  · exact Fin.ext (by have h : (x 1).val < 1 := (x 1).isLt; show k.val + 1 * (x 1).val = k.val; omega)

/-- A window that the body stores is left at its contents, -/
theorem leave_live {cfg : Cfg sig Λ₀} {c : Dev nD} (dat : Dat τ (Elt F) Unit ℕ (UR sig nD τ) ℕ cfg c) (w : Fin cfg.W) (t : Fin cfg.N) (h : cfg.idle w (cfg.grid.coords t) = false) :
    owns (c : Thread nD τ) ((cfg.win w).stage (cfg.slots t w)) fullShare (dat.after w t) ⊢ (dat.leavesExact w t : sProp 𝕄) := by
  unfold Dat.leavesExact
  rewrite [h]
  exact .rfl

/-- and one that it does not store is left as it was found. -/
theorem leave_idle {cfg : Cfg sig Λ₀} {c : Dev nD} (dat : Dat τ (Elt F) Unit ℕ (UR sig nD τ) ℕ cfg c) (w : Fin cfg.W) (t : Fin cfg.N) (d) (h : cfg.idle w (cfg.grid.coords t) = true)
    (hf : (cfg.win w).flush t = true → dat.before w t d = dat.after w t) :
    owns (c : Thread nD τ) ((cfg.win w).stage (cfg.slots t w)) fullShare (dat.before w t d) ⊢ (dat.leavesExact w t : sProp 𝕄) := by
  unfold Dat.leavesExact
  rewrite [h]
  cases hfl : (cfg.win w).flush t with
  | false => iintro H; iexists d; iexact H
  | true => rw [hf hfl]

end Cert.Kernel.Run

end
-- ==== Proof.Run.Amax.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit
public import Idealize.ShloMosaic.Lib.WritesUnit
public import Idealize.ShloMosaic.Lib.VecWindow
public import Idealize.ShloMosaic.Lib.Pointwise.Index
public import Idealize.ShloMosaic.Lib.Pipeline.ValueKit.Acc
public import Idealize.ShloMosaic.Lib.WholeRead
public import Idealize.ShloMosaic.Lib.Pointwise
public import Idealize.ShloMosaic.Lib.Pipeline.TableIdle
public import proofs.«01_k».proof.Proof.Run.Common

@[expose] public section

noncomputable section

namespace Cert.Kernel.Run.K0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three branches of the body: the first point, every later point, the last point. -/
abbrev cond1 (i : grid0.Coords) : Prop := Scalar.cmpi .ne (Scalar.extui (Scalar.cmpi .eq (BitVec.ofNat 32 (i 0).val) 0#32)) 0#32 = 1#1
abbrev cond2 (i : grid0.Coords) : Prop := Scalar.cmpi .ne (Scalar.extui (Scalar.cmpi .sgt (BitVec.ofNat 32 (i 0).val) 0#32)) 0#32 = 1#1
abbrev cond3 (i : grid0.Coords) : Prop := k0_cond3 i = 1#1

/-- The first point: the scratch buffer takes the maxima of the first block. -/
theorem runA (c : Dev nD) (i : grid0.Coords) (arg1 : Memref sig .tc .vmem S512x10240 .bf16) (harg1 : arg1.IsWhole) (arg2 : Memref sig .tc .smem S1x1 .f32) (harg2 : arg2.IsWhole) (arg3 : Memref sig .tc .vmem S16x10240 .bf16) (harg3 : arg3.IsWhole)
    (hc1 : cond1 i) (hc2 : ¬cond2 i) (hc3 : ¬cond3 i)
    (x0 : Vec F S512x10240 .bf16) (d1 : Vec F S1x1 .f32) (S : Vec F S16x10240 .bf16) (K : PUnit → sProp 𝕄) :
    iprop(owns (c : Thread nD τ) arg1 fullShare x0 ∗ owns (c : Thread nD τ) arg2 fullShare d1 ∗ owns (c : Thread nD τ) arg3 fullShare S
        ∗ (iprop(owns (c : Thread nD τ) arg1 fullShare x0 ∗ owns (c : Thread nD τ) arg2 fullShare d1 ∗ owns (c : Thread nD τ) arg3 fullShare (k0_pay2 x0)) -∗ K ⟨⟩))
      ⊢ wp frame (wpE (defs₀ (F := F)) Variants.none c none) Set.univ (cc0_amax i arg1 harg1 arg2 harg2 arg3 harg3) K := by
  simp only [cc0_amax_eq_skeleton]; unfold cc0_amax_skel
  unfold owns
  iintro ⟨⟨%f0, %hf0, H0⟩, ⟨%f1, %hf1, H1⟩, ⟨%fs, %hfs, HS⟩, Hk⟩
  obtain rfl := harg1.eq_unread hf0; obtain rfl := harg3.eq_unread hfs
  sl_exec (disch := first | sl_exact hc1 | sl_exact hc2 | sl_exact hc3)
  sl_step
  iapply Hk
  isplitl [H0]
  · iexists _; isplitr; · ipureintro; exact harg1.read_unread _
    iexact H0
  isplitl [H1]
  · iexists _; isplitr; swap; · iexact H1
    ipureintro; exact hf1
  iexists _; isplitr; swap; · iexact HS
  ipureintro; rw [store_whole _ (by decide)]; rw [load_whole harg1 (by decide)]

/-- A later point: the scratch buffer takes the larger of itself and the maxima of the block. -/
theorem runB (c : Dev nD) (i : grid0.Coords) (arg1 : Memref sig .tc .vmem S512x10240 .bf16) (harg1 : arg1.IsWhole) (arg2 : Memref sig .tc .smem S1x1 .f32) (harg2 : arg2.IsWhole) (arg3 : Memref sig .tc .vmem S16x10240 .bf16) (harg3 : arg3.IsWhole)
    (hc1 : ¬cond1 i) (hc2 : cond2 i) (hc3 : ¬cond3 i)
    (x0 : Vec F S512x10240 .bf16) (d1 : Vec F S1x1 .f32) (S : Vec F S16x10240 .bf16) (K : PUnit → sProp 𝕄) :
    iprop(owns (c : Thread nD τ) arg1 fullShare x0 ∗ owns (c : Thread nD τ) arg2 fullShare d1 ∗ owns (c : Thread nD τ) arg3 fullShare S
        ∗ (iprop(owns (c : Thread nD τ) arg1 fullShare x0 ∗ owns (c : Thread nD τ) arg2 fullShare d1 ∗ owns (c : Thread nD τ) arg3 fullShare (k0_pay3 x0 S)) -∗ K ⟨⟩))
      ⊢ wp frame (wpE (defs₀ (F := F)) Variants.none c none) Set.univ (cc0_amax i arg1 harg1 arg2 harg2 arg3 harg3) K := by
  simp only [cc0_amax_eq_skeleton]; unfold cc0_amax_skel
  unfold owns
  iintro ⟨⟨%f0, %hf0, H0⟩, ⟨%f1, %hf1, H1⟩, ⟨%fs, %hfs, HS⟩, Hk⟩
  obtain rfl := harg1.eq_unread hf0; obtain rfl := harg3.eq_unread hfs
  sl_exec (disch := first | sl_exact hc1 | sl_exact hc2 | sl_exact hc3)
  sl_step
  iapply Hk
  isplitl [H0]
  · iexists _; isplitr; · ipureintro; exact harg1.read_unread _
    iexact H0
  isplitl [H1]
  · iexists _; isplitr; swap; · iexact H1
    ipureintro; exact hf1
  iexists _; isplitr; swap; · iexact HS
  ipureintro; rw [store_whole _ (by decide)]; rw [load_whole harg1 (by decide), load_whole harg3 (by decide)]

/-- The last point: as before, and the largest entry of the scratch buffer is written. -/
theorem runC (c : Dev nD) (i : grid0.Coords) (arg1 : Memref sig .tc .vmem S512x10240 .bf16) (harg1 : arg1.IsWhole) (arg2 : Memref sig .tc .smem S1x1 .f32) (harg2 : arg2.IsWhole) (arg3 : Memref sig .tc .vmem S16x10240 .bf16) (harg3 : arg3.IsWhole)
    (hc1 : ¬cond1 i) (hc2 : cond2 i) (hc3 : cond3 i)
    (x0 : Vec F S512x10240 .bf16) (d1 : Vec F S1x1 .f32) (S : Vec F S16x10240 .bf16) (K : PUnit → sProp 𝕄) :
    iprop(owns (c : Thread nD τ) arg1 fullShare x0 ∗ owns (c : Thread nD τ) arg2 fullShare d1 ∗ owns (c : Thread nD τ) arg3 fullShare S
        ∗ (iprop(owns (c : Thread nD τ) arg1 fullShare x0 ∗ owns (c : Thread nD τ) arg2 fullShare (fun _ => k0_pay4 (k0_pay3 x0 S)) ∗ owns (c : Thread nD τ) arg3 fullShare (k0_pay3 x0 S)) -∗ K ⟨⟩))
      ⊢ wp frame (wpE (defs₀ (F := F)) Variants.none c none) Set.univ (cc0_amax i arg1 harg1 arg2 harg2 arg3 harg3) K := by
  simp only [cc0_amax_eq_skeleton]; unfold cc0_amax_skel
  unfold owns
  iintro ⟨⟨%f0, %hf0, H0⟩, ⟨%f1, %hf1, H1⟩, ⟨%fs, %hfs, HS⟩, Hk⟩
  obtain rfl := harg1.eq_unread hf0; obtain rfl := harg3.eq_unread hfs
  sl_exec (disch := first | sl_exact hc1 | sl_exact hc2 | sl_exact hc3)
  sl_step
  iapply Hk
  isplitl [H0]
  · iexists _; isplitr; · ipureintro; exact harg1.read_unread _
    iexact H0
  isplitl [H1]
  · iexists _; isplitr; swap; · iexact H1
    ipureintro; rw [store_whole _ (by decide)]; unfold runC.sl.v14 runC.sl.HS_1; rw [View.readCov_full, load_whole harg1 (by decide), load_whole harg3 (by decide)]; rfl
  iexists _; isplitr; swap; · iexact HS
  ipureintro; unfold runC.sl.HS_1; rw [store_whole _ (by decide)]; rw [load_whole harg1 (by decide), load_whole harg3 (by decide)]

/-! ## What the scratch buffer holds before each point -/

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Point number `n`. -/
def pt (n : ℕ) : Fin cfg0.N := ⟨n % 24, Nat.mod_lt _ (by decide)⟩

/-- The scratch buffer after point `n`: the running maxima. -/
def acc (c : Dev nD) : ℕ → Vec F S16x10240 .bf16
  | 0 => k0_pay2 (iblk V c 0 (pt 0))
  | n + 1 => k0_pay3 (iblk V c 0 (pt (n + 1))) (acc c n)

/-- Before point `n` the scratch buffer holds what point `n - 1` left. -/
def Holds (c : Dev nD) (n : ℕ) (S : Vec F S16x10240 .bf16) : Prop := ∀ k, n = k + 1 → S = acc V c k

/-! ## The pipeline's proof data -/

/-- The scratch buffer. -/
abbrev scM : Memref sig .tc .vmem S16x10240 .bf16 := Memref.whole cc0_scratch0

/-- The region's invariant before point `n`: the scratch buffer as `Holds` says, every other scoped buffer, and the random-number register. -/
def Φ (c : Dev nD) (n : ℕ) : sProp 𝕄 :=
  iprop((∃ S, ⌜Holds V c n S⌝ ∗ owns (c : Thread nD τ) scM fullShare S)
    ∗ Pipeline.scopedRestBut (Ix := Unit) (Name := ℕ) (U := UR sig nD τ) (Lvl := ℕ) (Val := Elt F) spec0 c [cc0_scratch0] ∗ ∃ r, prngReg c r)

/-- The pipeline's proof data: the input's buffer keeps its block; the output's holds, once written, the largest entry of the last running maxima. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => fun _ => k0_pay4 (acc V c 23)
  Φ p := Φ V c p.val
  q _ := fullShare
  owed _ := 0

theorem A_eq (c : Dev nD) (w : Fin cfg0.W) : (dat V c).A w = V c (Pipeline.arrRef spec0 w) := by dsimp only [dat]
theorem after_0 (c : Dev nD) (t : Fin cfg0.N) : (dat V c).after 0 t = iblk V c 0 t := by dsimp only [dat]
theorem after_1 (c : Dev nD) (t : Fin cfg0.N) : (dat V c).after 1 t = fun _ => k0_pay4 (acc V c 23) := by dsimp only [dat]

/-- The input's current buffer holds its block at every point. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]) t d).trans
    (by unfold Dat.fetched Dat.blockOf iblk; rw [A_eq]; try rfl)

/-! ## Which points take which branch -/

theorem cond1_iff : ∀ t : Fin cfg0.N, cond1 (grid0.coords t) ↔ t.val = 0 := (by decide +kernel : ∀ t : Fin grid0.N, _)
theorem cond2_iff : ∀ t : Fin cfg0.N, cond2 (grid0.coords t) ↔ 0 < t.val := (by decide +kernel : ∀ t : Fin grid0.N, _)
theorem cond3_iff : ∀ t : Fin cfg0.N, cond3 (grid0.coords t) ↔ t.val = 23 := (by decide +kernel : ∀ t : Fin grid0.N, _)
theorem idle_1 : ∀ t : Fin cfg0.N, cfg0.idle 1 (cfg0.grid.coords t) = decide (t.val < 23) := (by decide +kernel : ∀ t : Fin grid0.N, idle0 1 (grid0.coords t) = decide (t.val < 23))
theorem flush_1 : ∀ t : Fin cfg0.N, (cfg0.win 1).flush t = decide (t.val = 23) := (by decide +kernel : ∀ t : Fin grid0.N, win0_1.flush t = decide (t.val = 23))

/-! ## The body obligation -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) ((cfg0.win 0).stage (cfg0.slots t 0)) fullShare ((dat V c).before 0 t d))
    ∗ (∃ d, owns (c : Thread nD τ) ((cfg0.win 1).stage (cfg0.slots t 1)) fullShare ((dat V c).before 1 t d)))

/-- and what it returns. -/
def bodyPost (c : Dev nD) (t : Fin cfg0.N) : sProp 𝕄 :=
  iprop((dat V c).Φ t.succ ∗ (dat V c).owesAt () t.succ ∗ (dat V c).leavesExact 0 t ∗ (dat V c).leavesExact 1 t)

theorem Φ_cast (c : Dev nD) (t : Fin cfg0.N) : (dat V c).Φ t.castSucc = Φ V c t.val := rfl
theorem Φ_succ (c : Dev nD) (t : Fin cfg0.N) : (dat V c).Φ t.succ = Φ V c (t.val + 1) := rfl
theorem pt_val (t : Fin cfg0.N) : pt t.val = t := Fin.ext (Nat.mod_eq_of_lt t.isLt)

/-- The first point. -/
theorem sound_A (c : Dev nD) (t : Fin cfg0.N) (h : t.val = 0) :
    bodyPre V c t ⊢ wp frame (wpE (defs₀ (F := F)) Variants.none c none) Set.univ (bodyAt0 t) (fun _ => bodyPost V c t) := by
  have ht : t.val < 24 := t.isLt
  unfold bodyPre bodyPost bodyAt0
  rewrite [Φ_cast, Φ_succ, show (dat V c).owesAt () t.succ = (dat V c).owesAt () t.castSucc from rfl]
  simp only [before_0]
  unfold Φ
  iintro ⟨⟨⟨%S, %hS, HS⟩, HR, HP⟩, Ho, ⟨%d0, H0⟩, ⟨%d1, H1⟩⟩
  iapply (runA c (grid0.coords t) _ _ _ _ _ _ ((cond1_iff t).2 (by omega)) (fun h => absurd ((cond2_iff t).1 h) (by omega)) (fun h => absurd ((cond3_iff t).1 h) (by omega)) (iblk V c 0 t) ((dat V c).before 1 t d1) S)
  isplitl [H0]; · iexact H0
  isplitl [H1]; · iexact H1
  isplitl [HS]; · iexact HS
  iintro ⟨H0, H1, HS⟩
  isplitl [HS HR HP]
  · isplitl [HS]
    · iexists _; isplitr; swap; · iexact HS
      ipureintro
      · intro k hk; obtain rfl : k = 0 := by omega
        have e : pt 0 = t := Fin.ext (by show 0 % 24 = t.val; omega)
        unfold acc; rw [e]
    isplitl [HR]; · iexact HR
    iexact HP
  isplitl [Ho]; · iexact Ho
  isplitl [H0]
  · iapply (leave_live (dat V c) 0 t rfl); rewrite [after_0]; iexact H0
  iapply (leave_idle (dat V c) 1 t d1 (by rw [idle_1]; exact decide_eq_true (by omega)) (fun hf => absurd (of_decide_eq_true ((flush_1 t).symm.trans hf)) (by omega))); iexact H1

/-- A later point, not the last. -/
theorem sound_B (c : Dev nD) (t : Fin cfg0.N) (h1 : 0 < t.val) (h2 : t.val < 23) :
    bodyPre V c t ⊢ wp frame (wpE (defs₀ (F := F)) Variants.none c none) Set.univ (bodyAt0 t) (fun _ => bodyPost V c t) := by
  have ht : t.val < 24 := t.isLt
  obtain ⟨n, hn⟩ : ∃ n, t.val = n + 1 := ⟨t.val - 1, by omega⟩
  have hpt : pt (n + 1) = t := by rw [← hn]; exact pt_val t
  unfold bodyPre bodyPost bodyAt0
  rewrite [Φ_cast, Φ_succ, show (dat V c).owesAt () t.succ = (dat V c).owesAt () t.castSucc from rfl]
  simp only [before_0]
  unfold Φ
  iintro ⟨⟨⟨%S, %hS, HS⟩, HR, HP⟩, Ho, ⟨%d0, H0⟩, ⟨%d1, H1⟩⟩
  iapply (runB c (grid0.coords t) _ _ _ _ _ _ (fun h => absurd ((cond1_iff t).1 h) (by omega)) ((cond2_iff t).2 (by omega)) (fun h => absurd ((cond3_iff t).1 h) (by omega)) (iblk V c 0 t) ((dat V c).before 1 t d1) S)
  isplitl [H0]; · iexact H0
  isplitl [H1]; · iexact H1
  isplitl [HS]; · iexact HS
  iintro ⟨H0, H1, HS⟩
  isplitl [HS HR HP]
  · isplitl [HS]
    · iexists _; isplitr; swap; · iexact HS
      ipureintro
      · intro k hk; obtain rfl : k = n + 1 := by omega
        rw [hS n hn, acc, hpt]
    isplitl [HR]; · iexact HR
    iexact HP
  isplitl [Ho]; · iexact Ho
  isplitl [H0]
  · iapply (leave_live (dat V c) 0 t rfl); rewrite [after_0]; iexact H0
  iapply (leave_idle (dat V c) 1 t d1 (by rw [idle_1]; exact decide_eq_true (by omega)) (fun hf => absurd (of_decide_eq_true ((flush_1 t).symm.trans hf)) (by omega))); iexact H1

/-- The last point. -/
theorem sound_C (c : Dev nD) (t : Fin cfg0.N) (h : t.val = 23) :
    bodyPre V c t ⊢ wp frame (wpE (defs₀ (F := F)) Variants.none c none) Set.univ (bodyAt0 t) (fun _ => bodyPost V c t) := by
  have ht : t.val < 24 := t.isLt
  obtain ⟨n, hn⟩ : ∃ n, t.val = n + 1 := ⟨t.val - 1, by omega⟩
  have hpt : pt (n + 1) = t := by rw [← hn]; exact pt_val t
  unfold bodyPre bodyPost bodyAt0
  rewrite [Φ_cast, Φ_succ, show (dat V c).owesAt () t.succ = (dat V c).owesAt () t.castSucc from rfl]
  simp only [before_0]
  unfold Φ
  iintro ⟨⟨⟨%S, %hS, HS⟩, HR, HP⟩, Ho, ⟨%d0, H0⟩, ⟨%d1, H1⟩⟩
  iapply (runC c (grid0.coords t) _ _ _ _ _ _ (fun h => absurd ((cond1_iff t).1 h) (by omega)) ((cond2_iff t).2 (by omega)) ((cond3_iff t).2 (by omega)) (iblk V c 0 t) ((dat V c).before 1 t d1) S)
  isplitl [H0]; · iexact H0
  isplitl [H1]; · iexact H1
  isplitl [HS]; · iexact HS
  iintro ⟨H0, H1, HS⟩
  isplitl [HS HR HP]
  · isplitl [HS]
    · iexists _; isplitr; swap; · iexact HS
      ipureintro
      · intro k hk; obtain rfl : k = n + 1 := by omega
        rw [hS n hn, acc, hpt]
    isplitl [HR]; · iexact HR
    iexact HP
  isplitl [Ho]; · iexact Ho
  isplitl [H0]
  · iapply (leave_live (dat V c) 0 t rfl); rewrite [after_0]; iexact H0
  iapply (leave_live (dat V c) 1 t (by rw [idle_1]; exact decide_eq_false (by omega)))
  have e : acc V c 23 = k0_pay3 (iblk V c 0 t) S := by
    obtain rfl : n = 22 := by omega
    rw [hS 22 hn, acc, hpt]
  rewrite [after_1, e]
  iexact H1

/-- The body table's row at point `t`'s slots is the body. -/
theorem defs₀_row (t : Fin cfg0.N) : defs₀ (F := F) .tc cfg0.body (cfg0.bodyArgs t (cfg0.slots t)) = bodyAt0 t := by
  unfold defs₀; rw [Defs.onTc_tc]

theorem sound_body (c : Dev nD) (t : Fin cfg0.N) :
    bodyPre V c t ⊢ wp frame (wpE (defs₀ (F := F)) Variants.none c none) Set.univ (bodyAt0 t) (fun _ => bodyPost V c t) := by
  have ht : t.val < 24 := t.isLt
  by_cases h1 : t.val = 0
  · exact sound_A V c t h1
  by_cases h2 : t.val < 23
  · exact sound_B V c t (by omega) h2
  exact sound_C V c t (by omega)

/-- The body obligation, at every point. -/
theorem body_obligation (c : Dev nD) : BodyObligation (dat V c) (defs₀ (F := F)) Variants.none () Set.univ := fun t => by
  rw [bigSep_W0, bigSep_W0, defs₀_row]
  exact triple_restated (sound_body V c t) rfl .rfl fun _ => .rfl

/-- The scoped buffers that are no staging buffer of this call: its scratch buffer, and the others. -/
theorem rest_eq (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

/-- The region is entered from its scoped buffers and the random-number register, -/
theorem hin (c : Dev nD) :
    iprop(Pipeline.scopedRest (Ix := Unit) (Name := ℕ) (U := UR sig nD τ) (Lvl := ℕ) (Val := Elt F) spec0 c ∗ ∃ r, prngReg c r) ⊢ Φ V c 0 := by
  rw [rest_eq]
  unfold Φ
  iintro ⟨⟨HS, HR⟩, HP⟩
  isplitl [HS]
  · icases HS with ⟨%f, HS⟩
    iexists f
    isplitr; · ipureintro; exact (fun k hk => absurd hk (by omega))
    rw [owns_whole]
    iexact HS
  isplitl [HR]; · iexact HR
  iexact HP

/-- and gives them back at the end. -/
theorem hout (c : Dev nD) (n : ℕ) :
    Φ V c n ⊢ iprop(Pipeline.scopedRest (Ix := Unit) (Name := ℕ) (U := UR sig nD τ) (Lvl := ℕ) (Val := Elt F) spec0 c ∗ ∃ r, prngReg c r) := by
  rw [rest_eq]
  unfold Φ
  iintro ⟨⟨%S, %hS, HS⟩, HR, HP⟩
  isplitl [HS HR]
  · isplitl [HS]
    · iexists S
      rw [← owns_whole (c : Thread nD τ) cc0_scratch0 fullShare S]
      iexact HS
    iexact HR
  iexact HP

end Cert.Kernel.Run.K0

end
-- ==== Proof.Run.Dgrad.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit
public import Idealize.ShloMosaic.Lib.WritesUnit
public import Idealize.ShloMosaic.Lib.VecWindow
public import Idealize.ShloMosaic.Lib.Pointwise.Index
public import Idealize.ShloMosaic.Lib.Pipeline.ValueKit.Acc
public import Idealize.ShloMosaic.Lib.WholeRead
public import Idealize.ShloMosaic.Lib.Pointwise
public import Idealize.ShloMosaic.Lib.Pipeline.TableIdle
public import proofs.«01_k».proof.Proof.Run.Common

@[expose] public section

noncomputable section

namespace Cert.Kernel.Run.K1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The columns of the scratch buffer that the body stores at a point, and the slot that it loads. -/
theorem off1_eq (i : grid1.Coords) : k1_off1 i = ![(i 0).val % 2, 0, 640 * (i 1).val] := by
  revert i; decide +kernel
theorem off2_eq (i : grid1.Coords) : k1_off2 i = ![((i 0).val + 1) % 2, 0, 0] := by
  revert i; decide +kernel
instance closedOff1 (i : grid1.Coords) : ClosedOff (k1_off1 i) := ⟨_, off1_eq i⟩
instance closedOff2 (i : grid1.Coords) : ClosedOff (k1_off2 i) := ⟨_, off2_eq i⟩

/-- One slot of the two-slot scratch buffer, as the body loads it. -/
def slotOf (S : Vec F S2x1024x10240 .fp8e5m2) (s : Fin 2) : Vec F S1x1024x10240 .fp8e5m2 := fun x => S (ix3 s (x 1) (x 2))

/-- `S'` is the scratch buffer `S` with the 640 columns from `640 * i 1` of slot `i 0 mod 2` replaced by `w`. -/
def Put (i : grid1.Coords) (S : Vec F S2x1024x10240 .fp8e5m2) (w : Vec F S1x1024x640 .fp8e5m2) (S' : Vec F S2x1024x10240 .fp8e5m2) : Prop :=
  ∀ y : S2x1024x10240.Idx,
    ((y 0).val = (i 0).val % 2 → ∀ q : Fin 640, (y 2).val = 640 * (i 1).val + q.val → S' y = w (ix3 0 (y 1) q))
    ∧ ((y 0).val ≠ (i 0).val % 2 ∨ (y 2).val < 640 * (i 1).val ∨ 640 * (i 1).val + 640 ≤ (y 2).val → S' y = S y)

/-- Reading back the scratch buffer after a store of one slot's 640 columns. -/
theorem put_read {arg : Memref sig .tc .vmem S2x1024x10240 .fp8e5m2} (harg : arg.IsWhole) (i : grid1.Coords)
    (inb : ∀ a, k1_off1 i a + S1x1024x640.size a ≤ S2x1024x10240.size a)
    (S : Vec F S2x1024x10240 .fp8e5m2) (w : Vec F S1x1024x640 .fp8e5m2) :
    Put i S w (View.read (Elt F) arg.view (arg.view.writes (Elt F) (harg.unread S) [⟨Rect.unit (s := S2x1024x10240) (k1_off1 i) S1x1024x640.size inb, w⟩])) := by
  intro y
  refine ⟨fun h0 q h2 => ?_, fun h => ?_⟩
  · refine View.read_writes_cons_unit_of_mem arg.view _ inb w [] y (ix3 0 (y 1) q) (off1_eq i) fun a => ?_
    fin_cases a
    · exact h0
    · exact (Nat.zero_add _).symm
    · exact h2
  · refine Eq.trans ?_ (congrFun (harg.read_unread S) y)
    rcases h with h | h
    · refine View.read_writes_cons_unit_of_not_mem arg.view _ inb w [] y (off1_eq i) 0 ?_
      show (y 0).val < (i 0).val % 2 ∨ (i 0).val % 2 + 1 ≤ (y 0).val
      omega
    · exact View.read_writes_cons_unit_of_not_mem arg.view _ inb w [] y (off1_eq i) 2 h

/-- A load of one slot, when nothing was stored before it. -/
theorem load_slot {arg : Memref sig .tc .vmem S2x1024x10240 .fp8e5m2} (harg : arg.IsWhole) (i : grid1.Coords)
    (inb : ∀ a, k1_off2 i a + S1x1024x10240.size a ≤ S2x1024x10240.size a) (S : Vec F S2x1024x10240 .fp8e5m2) :
    View.readAt (Elt F) arg.view (Rect.unit (s := S2x1024x10240) (k1_off2 i) S1x1024x10240.size inb).toLoadRect (harg.unread S)
      = slotOf S ⟨((i 0).val + 1) % 2, Nat.mod_lt _ (by decide)⟩ := by
  funext x
  rw [harg.readAt_unread]
  unfold slotOf
  congr 1
  have e : ∀ a, ((Rect.unit (s := S2x1024x10240) (k1_off2 i) S1x1024x10240.size inb).toLoadRect.idx x a).val = (![((i 0).val + 1) % 2, 0, 0] : Fin 3 → ℕ) a + 1 * (x a).val :=
    fun a => congrArg (· + 1 * (x a).val) (congrFun (off2_eq i) a)
  funext a
  refine Fin.ext ((e a).trans ?_)
  fin_cases a
  · have h : (x 0).val < 1 := (x 0).isLt
    show ((i 0).val + 1) % 2 + 1 * (x 0).val = ((i 0).val + 1) % 2
    omega
  · show 0 + 1 * (x 1).val = (x 1).val
    omega
  · show 0 + 1 * (x 2).val = (x 2).val
    omega

/-- A load of one slot after a store into the other slot: the store is not seen. -/
theorem load_slot_after {arg : Memref sig .tc .vmem S2x1024x10240 .fp8e5m2} (harg : arg.IsWhole) (i : grid1.Coords)
    (inb1 : ∀ a, k1_off1 i a + S1x1024x640.size a ≤ S2x1024x10240.size a)
    (inb : ∀ a, k1_off2 i a + S1x1024x10240.size a ≤ S2x1024x10240.size a) (S : Vec F S2x1024x10240 .fp8e5m2) (w : Vec F S1x1024x640 .fp8e5m2) :
    View.readAt (Elt F) arg.view (Rect.unit (s := S2x1024x10240) (k1_off2 i) S1x1024x10240.size inb).toLoadRect
        (arg.view.writes (Elt F) (harg.unread S) [⟨Rect.unit (s := S2x1024x10240) (k1_off1 i) S1x1024x640.size inb1, w⟩])
      = slotOf S ⟨((i 0).val + 1) % 2, Nat.mod_lt _ (by decide)⟩ := by
  rw [← load_slot harg i inb S]
  funext x
  rw [harg.readAt_unread]
  have e : ((Rect.unit (s := S2x1024x10240) (k1_off2 i) S1x1024x10240.size inb).toLoadRect.idx x 0).val = (![((i 0).val + 1) % 2, 0, 0] : Fin 3 → ℕ) 0 + 1 * (x 0).val :=
    congrArg (· + 1 * (x 0).val) (congrFun (off2_eq i) 0)
  have h : (x 0).val < 1 := (x 0).isLt
  have e' : ((Rect.unit (s := S2x1024x10240) (k1_off2 i) S1x1024x10240.size inb).toLoadRect.idx x 0).val = ((i 0).val + 1) % 2 + 1 * (x 0).val := e
  exact (put_read harg i inb1 S w _).2 (.inl (by omega))

/-- The body where it only casts: the codes, their transpose, and the block of codes in the scratch buffer. -/
theorem runA (c : Dev nD) (i : grid1.Coords) (arg2 : Memref sig .tc .smem S1x3 .f32) (harg2 : arg2.IsWhole) (arg3 : Memref sig .tc .vmem S1024x640 .bf16) (harg3 : arg3.IsWhole) (arg4 : Memref sig .tc .vmem S10240x512 .fp8e4m3) (harg4 : arg4.IsWhole) (arg5 : Memref sig .tc .vmem S1024x512 .bf16) (harg5 : arg5.IsWhole) (arg6 : Memref sig .tc .vmem S1024x640 .fp8e5m2) (harg6 : arg6.IsWhole) (arg7 : Memref sig .tc .vmem S640x1024 .fp8e5m2) (harg7 : arg7.IsWhole) (arg8 : Memref sig .tc .vmem S2x1024x10240 .fp8e5m2) (harg8 : arg8.IsWhole)
    (hc1 : k1_cond1 i = 1#1) (hc2 : ¬k1_cond2 i = 1#1)
    (x0 : Vec F S1x3 .f32) (x1 : Vec F S1024x640 .bf16) (x2 : Vec F S10240x512 .fp8e4m3) (d3 : Vec F S1024x512 .bf16) (d4 : Vec F S1024x640 .fp8e5m2) (d5 : Vec F S640x1024 .fp8e5m2) (S : Vec F S2x1024x10240 .fp8e5m2) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare d3 ∗ owns (c : Thread nD τ) arg6 fullShare d4 ∗ owns (c : Thread nD τ) arg7 fullShare d5 ∗ owns (c : Thread nD τ) arg8 fullShare S
        ∗ (iprop(owns (c : Thread nD τ) arg2 fullShare x0 ∗ owns (c : Thread nD τ) arg3 fullShare x1 ∗ owns (c : Thread nD τ) arg4 fullShare x2
            ∗ owns (c : Thread nD τ) arg5 fullShare (d3)
            ∗ owns (c : Thread nD τ) arg6 fullShare (k1_pay1 x1 (scal x0 0))
            ∗ owns (c : Thread nD τ) arg7 fullShare (k1_pay2 x1 (scal x0 0))
            ∗ (∃ S', ⌜Put i S (k1_pay3 x1 (scal x0 0)) S'⌝ ∗ owns (c : Thread nD τ) arg8 fullShare S')) -∗ K ⟨⟩))
      ⊢ wp frame (wpE (defs₀ (F := F)) Variants.none c none) Set.univ (cc1_dgrad i arg2 harg2 arg3 harg3 arg4 harg4 arg5 harg5 arg6 harg6 arg7 harg7 arg8 harg8) K := by
  simp only [cc1_dgrad_eq_skeleton]; unfold cc1_dgrad_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2; obtain rfl := harg8.eq_unread hfs
  sl_exec (disch := first | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro; exact hf3
  isplitl [H4]
  · iexists _; isplitr; swap; · iexact H4
    ipureintro; rw [store_whole _ (by decide)]; unfold runA.sl.r; rw [load_whole harg3 (by decide), load_scal (n := 0) harg2 x0 0 rfl]
  isplitl [H5]
  · iexists _; isplitr; swap; · iexact H5
    ipureintro; rw [store_whole _ (by decide)]; unfold runA.sl.r; rw [load_whole harg3 (by decide), load_scal (n := 0) harg2 x0 0 rfl]
  iexists _
  isplitr; swap
  · iexists _; isplitr; swap; · iexact HS
    ipureintro; rfl
  ipureintro
  unfold runA.sl.r; rw [load_whole harg3 (by decide), load_scal (n := 0) harg2 x0 0 rfl]
  exact put_read harg8 i _ S _

/-- The body where it casts one block and multiplies the one before it. -/
theorem runB (c : Dev nD) (i : grid1.Coords) (arg2 : Memref sig .tc .smem S1x3 .f32) (harg2 : arg2.IsWhole) (arg3 : Memref sig .tc .vmem S1024x640 .bf16) (harg3 : arg3.IsWhole) (arg4 : Memref sig .tc .vmem S10240x512 .fp8e4m3) (harg4 : arg4.IsWhole) (arg5 : Memref sig .tc .vmem S1024x512 .bf16) (harg5 : arg5.IsWhole) (arg6 : Memref sig .tc .vmem S1024x640 .fp8e5m2) (harg6 : arg6.IsWhole) (arg7 : Memref sig .tc .vmem S640x1024 .fp8e5m2) (harg7 : arg7.IsWhole) (arg8 : Memref sig .tc .vmem S2x1024x10240 .fp8e5m2) (harg8 : arg8.IsWhole)
    (hc1 : k1_cond1 i = 1#1) (hc2 : k1_cond2 i = 1#1)
    (x0 : Vec F S1x3 .f32) (x1 : Vec F S1024x640 .bf16) (x2 : Vec F S10240x512 .fp8e4m3) (d3 : Vec F S1024x512 .bf16) (d4 : Vec F S1024x640 .fp8e5m2) (d5 : Vec F S640x1024 .fp8e5m2) (S : Vec F S2x1024x10240 .fp8e5m2) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare d3 ∗ owns (c : Thread nD τ) arg6 fullShare d4 ∗ owns (c : Thread nD τ) arg7 fullShare d5 ∗ owns (c : Thread nD τ) arg8 fullShare S
        ∗ (iprop(owns (c : Thread nD τ) arg2 fullShare x0 ∗ owns (c : Thread nD τ) arg3 fullShare x1 ∗ owns (c : Thread nD τ) arg4 fullShare x2
            ∗ owns (c : Thread nD τ) arg5 fullShare (k1_pay4 (slotOf S ⟨((i 0).val + 1) % 2, Nat.mod_lt _ (by decide)⟩) x2 (scal x0 1))
            ∗ owns (c : Thread nD τ) arg6 fullShare (k1_pay1 x1 (scal x0 0))
            ∗ owns (c : Thread nD τ) arg7 fullShare (k1_pay2 x1 (scal x0 0))
            ∗ (∃ S', ⌜Put i S (k1_pay3 x1 (scal x0 0)) S'⌝ ∗ owns (c : Thread nD τ) arg8 fullShare S')) -∗ K ⟨⟩))
      ⊢ wp frame (wpE (defs₀ (F := F)) Variants.none c none) Set.univ (cc1_dgrad i arg2 harg2 arg3 harg3 arg4 harg4 arg5 harg5 arg6 harg6 arg7 harg7 arg8 harg8) K := by
  simp only [cc1_dgrad_eq_skeleton]; unfold cc1_dgrad_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2; obtain rfl := harg8.eq_unread hfs
  sl_exec (disch := first | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro; rw [store_whole _ (by decide)]; unfold runB.sl.HS_1 runB.sl.r_1; rw [load_slot_after, load_whole harg4 (by decide), load_scal (n := 1) harg2 x0 1 rfl]
  isplitl [H4]
  · iexists _; isplitr; swap; · iexact H4
    ipureintro; rw [store_whole _ (by decide)]; unfold runB.sl.r; rw [load_whole harg3 (by decide), load_scal (n := 0) harg2 x0 0 rfl]
  isplitl [H5]
  · iexists _; isplitr; swap; · iexact H5
    ipureintro; rw [store_whole _ (by decide)]; unfold runB.sl.r; rw [load_whole harg3 (by decide), load_scal (n := 0) harg2 x0 0 rfl]
  iexists _
  isplitr; swap
  · iexists _; isplitr; swap; · iexact HS
    ipureintro; rfl
  ipureintro
  unfold runB.sl.HS_1 runB.sl.r; rw [load_whole harg3 (by decide), load_scal (n := 0) harg2 x0 0 rfl]
  exact put_read harg8 i _ S _

/-- The body where it only multiplies. -/
theorem runC (c : Dev nD) (i : grid1.Coords) (arg2 : Memref sig .tc .smem S1x3 .f32) (harg2 : arg2.IsWhole) (arg3 : Memref sig .tc .vmem S1024x640 .bf16) (harg3 : arg3.IsWhole) (arg4 : Memref sig .tc .vmem S10240x512 .fp8e4m3) (harg4 : arg4.IsWhole) (arg5 : Memref sig .tc .vmem S1024x512 .bf16) (harg5 : arg5.IsWhole) (arg6 : Memref sig .tc .vmem S1024x640 .fp8e5m2) (harg6 : arg6.IsWhole) (arg7 : Memref sig .tc .vmem S640x1024 .fp8e5m2) (harg7 : arg7.IsWhole) (arg8 : Memref sig .tc .vmem S2x1024x10240 .fp8e5m2) (harg8 : arg8.IsWhole)
    (hc1 : ¬k1_cond1 i = 1#1) (hc2 : k1_cond2 i = 1#1)
    (x0 : Vec F S1x3 .f32) (x1 : Vec F S1024x640 .bf16) (x2 : Vec F S10240x512 .fp8e4m3) (d3 : Vec F S1024x512 .bf16) (d4 : Vec F S1024x640 .fp8e5m2) (d5 : Vec F S640x1024 .fp8e5m2) (S : Vec F S2x1024x10240 .fp8e5m2) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare d3 ∗ owns (c : Thread nD τ) arg6 fullShare d4 ∗ owns (c : Thread nD τ) arg7 fullShare d5 ∗ owns (c : Thread nD τ) arg8 fullShare S
        ∗ (iprop(owns (c : Thread nD τ) arg2 fullShare x0 ∗ owns (c : Thread nD τ) arg3 fullShare x1 ∗ owns (c : Thread nD τ) arg4 fullShare x2
            ∗ owns (c : Thread nD τ) arg5 fullShare (k1_pay4 (slotOf S ⟨((i 0).val + 1) % 2, Nat.mod_lt _ (by decide)⟩) x2 (scal x0 1))
            ∗ owns (c : Thread nD τ) arg6 fullShare (d4)
            ∗ owns (c : Thread nD τ) arg7 fullShare (d5)
            ∗ owns (c : Thread nD τ) arg8 fullShare S) -∗ K ⟨⟩))
      ⊢ wp frame (wpE (defs₀ (F := F)) Variants.none c none) Set.univ (cc1_dgrad i arg2 harg2 arg3 harg3 arg4 harg4 arg5 harg5 arg6 harg6 arg7 harg7 arg8 harg8) K := by
  simp only [cc1_dgrad_eq_skeleton]; unfold cc1_dgrad_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2; obtain rfl := harg8.eq_unread hfs
  sl_exec (disch := first | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro; rw [store_whole _ (by decide)]; unfold runC.sl.r; rw [load_slot, load_whole harg4 (by decide), load_scal (n := 1) harg2 x0 1 rfl]
  isplitl [H4]
  · iexists _; isplitr; swap; · iexact H4
    ipureintro; exact hf4
  isplitl [H5]
  · iexists _; isplitr; swap; · iexact H5
    ipureintro; exact hf5
  iexists _; isplitr; · ipureintro; exact harg8.read_unread _
  iexact HS

/-! ## What the scratch buffer holds before each point -/

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row of three scalars as the body sees it at point `t`. -/
abbrev scs (c : Dev nD) (t : Fin cfg1.N) : Vec F S1x3 .f32 := iblk V c 0 t

/-- The codes that the body makes from its block of `dy` at point `t`. -/
def cd (c : Dev nD) (t : Fin cfg1.N) : Vec F S1024x640 .fp8e5m2 := k1_pay1 (iblk V c 1 t) (scal (scs V c t) 0)

/-- Point number `n`. -/
def pt (n : ℕ) : Fin cfg1.N := ⟨n % 208, Nat.mod_lt _ (by decide)⟩

/-- The code in row `r` and column `k` of row block `m`: column `k` is made at point `16 * m + k / 640`. -/
def rowCode (c : Dev nD) (m : ℕ) (r : Fin 1024) (k : Fin 10240) : Elt F .fp8e5m2 :=
  cd V c (pt (16 * m + k.val / 640)) (ix2 r ⟨k.val % 640, Nat.mod_lt _ (by decide)⟩)

/-- All codes of row block `m`, as a slot of the scratch buffer holds them. -/
def codesOf (c : Dev nD) (m : ℕ) : Vec F S1x1024x10240 .fp8e5m2 := fun x => rowCode V c m (x 1) (x 2)

/-- Before point `n` of row block `m = n / 16`: slot `m mod 2` holds the codes of block `m` in the columns made so far,
    the other slot holds all codes of block `m - 1`. -/
def Holds (c : Dev nD) (n : ℕ) (S : Vec F S2x1024x10240 .fp8e5m2) : Prop :=
  ∀ (s : Fin 2) (r : Fin 1024) (k : Fin 10240),
    (s.val = n / 16 % 2 → k.val < 640 * (n % 16) → n / 16 < 12 → S (ix3 s r k) = rowCode V c (n / 16) r k)
    ∧ (s.val = (n / 16 + 1) % 2 → 0 < n / 16 → n / 16 ≤ 12 → S (ix3 s r k) = rowCode V c (n / 16 - 1) r k)

theorem coord0 (t : Fin cfg1.N) : (grid1.coords t 0).val = t.val / 16 := by
  have ht : t.val < 208 := t.isLt
  have e : (grid1.coords t 0).val = t.val / 16 % 13 := Pipeline.Grid.coords_val t 0 (by decide) rfl
  omega
theorem coord1 (t : Fin cfg1.N) : (grid1.coords t 1).val = t.val % 16 := by
  have e : (grid1.coords t 1).val = t.val / 1 % 16 := Pipeline.Grid.coords_val t 1 (by decide) rfl
  omega

theorem Holds.zero (c : Dev nD) (S : Vec F S2x1024x10240 .fp8e5m2) : Holds V c 0 S := fun s r k =>
  ⟨fun _ h => absurd h (by omega), fun _ h => absurd h (by omega)⟩

/-- The stored block of codes, entry by entry. -/
theorem pay3_apply (x1 : Vec F S1024x640 .bf16) (a : Elt F .f32) (r : Fin 1024) (q : Fin 640) :
    k1_pay3 x1 a (ix3 0 r q) = k1_pay1 x1 a (ix2 r q) := by
  unfold k1_pay3
  simp only [pointwise]

/-- A point that casts adds its 640 columns. -/
theorem Holds.put (c : Dev nD) (t : Fin cfg1.N) (h : t.val < 192) {S S' : Vec F S2x1024x10240 .fp8e5m2} (hS : Holds V c t.val S)
    (hP : Put (grid1.coords t) S (k1_pay3 (iblk V c 1 t) (scal (scs V c t) 0)) S') : Holds V c (t.val + 1) S' := by
  intro s r k
  have hk := k.isLt
  have p := hP (ix3 s r k)
  rw [coord0, coord1] at p
  have p1 : s.val = t.val / 16 % 2 → ∀ q : Fin 640, k.val = 640 * (t.val % 16) + q.val → S' (ix3 s r k) = k1_pay3 (iblk V c 1 t) (scal (scs V c t) 0) (ix3 0 r q) := p.1
  have p2 : s.val ≠ t.val / 16 % 2 ∨ k.val < 640 * (t.val % 16) ∨ 640 * (t.val % 16) + 640 ≤ k.val → S' (ix3 s r k) = S (ix3 s r k) := p.2
  -- a column of the current block made by now
  have cur : s.val = t.val / 16 % 2 → k.val < 640 * (t.val % 16) + 640 → S' (ix3 s r k) = rowCode V c (t.val / 16) r k := by
    intro hs hlt
    by_cases hge : 640 * (t.val % 16) ≤ k.val
    · rw [p1 hs ⟨k.val - 640 * (t.val % 16), by omega⟩ (by show k.val = 640 * (t.val % 16) + (k.val - 640 * (t.val % 16)); omega), pay3_apply]
      unfold rowCode cd
      have e : pt (16 * (t.val / 16) + k.val / 640) = t := Fin.ext (by show (16 * (t.val / 16) + k.val / 640) % 208 = t.val; omega)
      rw [e]
      congr 1
      exact congrArg (ix2 r) (Fin.ext (by show k.val - 640 * (t.val % 16) = k.val % 640; omega))
    · rw [p2 (.inr (.inl (by omega)))]
      exact (hS s r k).1 hs (by omega) (by omega)
  refine ⟨fun hs hlt hm => ?_, fun hs hp hm => ?_⟩
  · have e : (t.val + 1) / 16 = t.val / 16 := by omega
    rw [e] at hs hm ⊢
    exact cur hs (by omega)
  · by_cases hj : t.val % 16 = 15
    · have e : (t.val + 1) / 16 - 1 = t.val / 16 := by omega
      rw [e]
      exact cur (by omega) (by omega)
    · have e : (t.val + 1) / 16 = t.val / 16 := by omega
      rw [e] at hs hp hm ⊢
      rw [p2 (.inl (by omega))]
      exact (hS s r k).2 hs hp hm

/-- A point of the last, thirteenth round changes nothing. -/
theorem Holds.keep (c : Dev nD) (t : Fin cfg1.N) (h : 192 ≤ t.val) {S : Vec F S2x1024x10240 .fp8e5m2} (hS : Holds V c t.val S) :
    Holds V c (t.val + 1) S := by
  have ht : t.val < 208 := t.isLt
  intro s r k
  refine ⟨fun hs hlt hm => absurd hm (by omega), fun hs hp hm => ?_⟩
  have e : (t.val + 1) / 16 = t.val / 16 := by omega
  rw [e] at hs hp hm ⊢
  exact (hS s r k).2 hs hp hm

/-- Where the body multiplies, the slot that it reads holds all codes of the previous row block. -/
theorem Holds.slot (c : Dev nD) (t : Fin cfg1.N) (h : 16 ≤ t.val) {S : Vec F S2x1024x10240 .fp8e5m2} (hS : Holds V c t.val S) :
    slotOf S ⟨((grid1.coords t 0).val + 1) % 2, Nat.mod_lt _ (by decide)⟩ = codesOf V c (t.val / 16 - 1) := by
  have ht : t.val < 208 := t.isLt
  funext x
  unfold slotOf codesOf
  exact (hS _ _ _).2 (by show ((grid1.coords t 0).val + 1) % 2 = _; rw [coord0]) (by omega) (by omega)

/-! ## The pipeline's proof data -/

/-- The last point at or before `t` that casts: the points of the thirteenth round keep the last block of codes. -/
def cap (t : Fin cfg1.N) : Fin cfg1.N := ⟨min t.val 191, lt_of_le_of_lt (Nat.min_le_left _ _) t.isLt⟩

theorem cap_of_lt (t : Fin cfg1.N) (h : t.val < 192) : cap t = t := Fin.ext (by show min t.val 191 = t.val; omega)

/-- The scratch buffer. -/
abbrev scM : Memref sig .tc .vmem S2x1024x10240 .fp8e5m2 := Memref.whole cc1_scratch0

/-- The region's invariant before point `n`: the scratch buffer as `Holds` says, every other scoped buffer, and the random-number register. -/
def Φ (c : Dev nD) (n : ℕ) : sProp 𝕄 :=
  iprop((∃ S, ⌜Holds V c n S⌝ ∗ owns (c : Thread nD τ) scM fullShare S)
    ∗ Pipeline.scopedRestBut (Ix := Unit) (Name := ℕ) (U := UR sig nD τ) (Lvl := ℕ) (Val := Elt F) spec1 c [cc1_scratch0] ∗ ∃ r, prngReg c r)

/-- The pipeline's proof data: the inputs' buffers keep their blocks; the first output's holds the product of the previous row block's codes with
    the block of weights; the other two outputs' hold the codes and their transpose. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => k1_pay4 (codesOf V c (t.val / 16 - 1)) (iblk V c 2 t) (scal (scs V c t) 1)
    | ⟨4, _⟩ => cd V c (cap t)
    | ⟨5, _⟩ => k1_pay2 (iblk V c 1 (cap t)) (scal (scs V c (cap t)) 0)
  Φ p := Φ V c p.val
  q _ := fullShare
  owed _ := 0

theorem A_eq (c : Dev nD) (w : Fin cfg1.W) : (dat V c).A w = V c (Pipeline.arrRef spec1 w) := by dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = k1_pay4 (codesOf V c (t.val / 16 - 1)) (iblk V c 2 t) (scal (scs V c t) 1) := by dsimp only [dat]
theorem after_4 (c : Dev nD) (t : Fin cfg1.N) : (dat V c).after 4 t = cd V c (cap t) := by dsimp only [dat]
theorem after_5 (c : Dev nD) (t : Fin cfg1.N) : (dat V c).after 5 t = k1_pay2 (iblk V c 1 (cap t)) (scal (scs V c (cap t)) 0) := by dsimp only [dat]

/-- Each input's current buffer holds its block at every point. -/
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl) (fun t => by rw [after_2]; unfold Dat.blockOf iblk; rw [A_eq]) t d).trans
    (by unfold Dat.fetched Dat.blockOf iblk; rw [A_eq]; try rfl)

/-! ## Which points store which output -/

theorem cond1_iff : ∀ t : Fin cfg1.N, k1_cond1 (grid1.coords t) = 1#1 ↔ t.val < 192 := (by decide +kernel : ∀ t : Fin grid1.N, _)
theorem cond2_iff : ∀ t : Fin cfg1.N, k1_cond2 (grid1.coords t) = 1#1 ↔ 16 ≤ t.val := (by decide +kernel : ∀ t : Fin grid1.N, _)
theorem idle_3 : ∀ t : Fin cfg1.N, cfg1.idle 3 (cfg1.grid.coords t) = decide (t.val < 16) := (by decide +kernel : ∀ t : Fin grid1.N, idle1 3 (grid1.coords t) = decide (t.val < 16))
theorem idle_4 : ∀ t : Fin cfg1.N, cfg1.idle 4 (cfg1.grid.coords t) = decide (192 ≤ t.val) := (by decide +kernel : ∀ t : Fin grid1.N, idle1 4 (grid1.coords t) = decide (192 ≤ t.val))
theorem idle_5 : ∀ t : Fin cfg1.N, cfg1.idle 5 (cfg1.grid.coords t) = decide (192 ≤ t.val) := (by decide +kernel : ∀ t : Fin grid1.N, idle1 5 (grid1.coords t) = decide (192 ≤ t.val))
theorem flush_3 : ∀ t : Fin cfg1.N, (cfg1.win 3).flush t = decide (16 ≤ t.val) := (by decide +kernel : ∀ t : Fin grid1.N, win1_3.flush t = decide (16 ≤ t.val))
theorem flush_4 : ∀ t : Fin cfg1.N, (cfg1.win 4).flush t = decide (t.val < 191 ∨ t.val = 207) := (by decide +kernel : ∀ t : Fin grid1.N, win1_4.flush t = decide (t.val < 191 ∨ t.val = 207))
theorem flush_5 : ∀ t : Fin cfg1.N, (cfg1.win 5).flush t = decide (t.val < 191 ∨ t.val = 207) := (by decide +kernel : ∀ t : Fin grid1.N, win1_5.flush t = decide (t.val < 191 ∨ t.val = 207))

/-- Through the thirteenth round the buffer of codes keeps the last block. -/
theorem before_4 (c : Dev nD) (t : Fin cfg1.N) (h : 192 ≤ t.val) (d) : (dat V c).before 4 t d = (dat V c).after 4 t := by
  have ht : t.val < 208 := t.isLt
  rw [(dat V c).before_idle_run 4 (fun _ => rfl) d (t.val - 192) t (by omega) fun j h1 h2 => by
    rw [idle_4, flush_4]; exact ⟨decide_eq_true (by omega), decide_eq_false (by omega)⟩]
  rw [(dat V c).before_of_pos 4 _ (by show t.val - (t.val - 192) ≠ 0; omega) rfl d, flush_4, if_neg (by
    simp only [decide_eq_true_eq]; omega)]
  unfold Dat.left
  rewrite [idle_4]
  rewrite [show decide (192 ≤ t.val - (t.val - 192) - 1) = false from decide_eq_false (by omega)]
  refine Eq.trans (b := (dat V c).after 4 ⟨t.val - (t.val - 192) - 1, by omega⟩) rfl ?_
  rw [after_4, after_4]
  congr 1
  exact Fin.ext (by show min (t.val - (t.val - 192) - 1) 191 = min t.val 191; omega)
theorem before_5 (c : Dev nD) (t : Fin cfg1.N) (h : 192 ≤ t.val) (d) : (dat V c).before 5 t d = (dat V c).after 5 t := by
  have ht : t.val < 208 := t.isLt
  rw [(dat V c).before_idle_run 5 (fun _ => rfl) d (t.val - 192) t (by omega) fun j h1 h2 => by
    rw [idle_5, flush_5]; exact ⟨decide_eq_true (by omega), decide_eq_false (by omega)⟩]
  rw [(dat V c).before_of_pos 5 _ (by show t.val - (t.val - 192) ≠ 0; omega) rfl d, flush_5, if_neg (by
    simp only [decide_eq_true_eq]; omega)]
  unfold Dat.left
  rewrite [idle_5]
  rewrite [show decide (192 ≤ t.val - (t.val - 192) - 1) = false from decide_eq_false (by omega)]
  refine Eq.trans (b := (dat V c).after 5 ⟨t.val - (t.val - 192) - 1, by omega⟩) rfl ?_
  have e : cap ⟨t.val - (t.val - 192) - 1, by omega⟩ = cap t := Fin.ext (by show min (t.val - (t.val - 192) - 1) 191 = min t.val 191; omega)
  rw [after_5, after_5, e]

/-! ## The body obligation -/

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) ((cfg1.win 0).stage (cfg1.slots t 0)) fullShare ((dat V c).before 0 t d))
    ∗ (∃ d, owns (c : Thread nD τ) ((cfg1.win 1).stage (cfg1.slots t 1)) fullShare ((dat V c).before 1 t d))
    ∗ (∃ d, owns (c : Thread nD τ) ((cfg1.win 2).stage (cfg1.slots t 2)) fullShare ((dat V c).before 2 t d))
    ∗ (∃ d, owns (c : Thread nD τ) ((cfg1.win 3).stage (cfg1.slots t 3)) fullShare ((dat V c).before 3 t d))
    ∗ (∃ d, owns (c : Thread nD τ) ((cfg1.win 4).stage (cfg1.slots t 4)) fullShare ((dat V c).before 4 t d))
    ∗ (∃ d, owns (c : Thread nD τ) ((cfg1.win 5).stage (cfg1.slots t 5)) fullShare ((dat V c).before 5 t d)))

/-- and what it returns. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t ∗ (dat V c).leavesExact 5 t)

theorem Φ_cast (c : Dev nD) (t : Fin cfg1.N) : (dat V c).Φ t.castSucc = Φ V c t.val := rfl
theorem Φ_succ (c : Dev nD) (t : Fin cfg1.N) : (dat V c).Φ t.succ = Φ V c (t.val + 1) := rfl

/-- A point of the first round: the codes are made. -/
theorem sound_A (c : Dev nD) (t : Fin cfg1.N) (h : t.val < 16) :
    bodyPre V c t ⊢ wp frame (wpE (defs₀ (F := F)) Variants.none c none) Set.univ (bodyAt1 t) (fun _ => bodyPost V c t) := by
  have ht : t.val < 208 := t.isLt
  unfold bodyPre bodyPost bodyAt1
  rewrite [Φ_cast, Φ_succ, show (dat V c).owesAt () t.succ = (dat V c).owesAt () t.castSucc from rfl]
  simp only [before_0, before_1, before_2]
  unfold Φ
  iintro ⟨⟨⟨%S, %hS, HS⟩, HR, HP⟩, Ho, ⟨%d0, H0⟩, ⟨%d1, H1⟩, ⟨%d2, H2⟩, ⟨%d3, H3⟩, ⟨%d4, H4⟩, ⟨%d5, H5⟩⟩
  iapply (runA c (grid1.coords t) _ _ _ _ _ _ _ _ _ _ _ _ _ _ ((cond1_iff t).2 (by omega)) (fun h => absurd ((cond2_iff t).1 h) (by omega))
    (iblk V c 0 t) (iblk V c 1 t) (iblk V c 2 t) ((dat V c).before 3 t d3) ((dat V c).before 4 t d4) ((dat V c).before 5 t d5) S)
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, H5, ⟨%S', %hP, HS⟩⟩
  isplitl [HS HR HP]
  · isplitl [HS]
    · iexists S'; isplitr
      · ipureintro; exact Holds.put V c t (by omega) hS hP
      iexact HS
    isplitl [HR]; · iexact HR
    iexact HP
  isplitl [Ho]; · iexact Ho
  isplitl [H0]
  · iapply (leave_live (dat V c) 0 t rfl); rewrite [after_0]; iexact H0
  isplitl [H1]
  · iapply (leave_live (dat V c) 1 t rfl); rewrite [after_1]; iexact H1
  isplitl [H2]
  · iapply (leave_live (dat V c) 2 t rfl); rewrite [after_2]; iexact H2
  isplitl [H3]
  · iapply (leave_idle (dat V c) 3 t d3 (by rw [idle_3]; exact decide_eq_true (by omega)) (fun hf => absurd (of_decide_eq_true ((flush_3 t).symm.trans hf)) (by omega))); iexact H3
  isplitl [H4]
  · iapply (leave_live (dat V c) 4 t (by rw [idle_4]; exact decide_eq_false (by omega))); rewrite [after_4]; rewrite [cap_of_lt t (by omega)]; unfold cd; iexact H4
  iapply (leave_live (dat V c) 5 t (by rw [idle_5]; exact decide_eq_false (by omega))); rewrite [after_5]; rewrite [cap_of_lt t (by omega)]; iexact H5

/-- A point of the rounds 2 to 12: the codes are made and the previous row block is multiplied. -/
theorem sound_B (c : Dev nD) (t : Fin cfg1.N) (h1 : 16 ≤ t.val) (h2 : t.val < 192) :
    bodyPre V c t ⊢ wp frame (wpE (defs₀ (F := F)) Variants.none c none) Set.univ (bodyAt1 t) (fun _ => bodyPost V c t) := by
  have ht : t.val < 208 := t.isLt
  unfold bodyPre bodyPost bodyAt1
  rewrite [Φ_cast, Φ_succ, show (dat V c).owesAt () t.succ = (dat V c).owesAt () t.castSucc from rfl]
  simp only [before_0, before_1, before_2]
  unfold Φ
  iintro ⟨⟨⟨%S, %hS, HS⟩, HR, HP⟩, Ho, ⟨%d0, H0⟩, ⟨%d1, H1⟩, ⟨%d2, H2⟩, ⟨%d3, H3⟩, ⟨%d4, H4⟩, ⟨%d5, H5⟩⟩
  iapply (runB c (grid1.coords t) _ _ _ _ _ _ _ _ _ _ _ _ _ _ ((cond1_iff t).2 (by omega)) ((cond2_iff t).2 (by omega))
    (iblk V c 0 t) (iblk V c 1 t) (iblk V c 2 t) ((dat V c).before 3 t d3) ((dat V c).before 4 t d4) ((dat V c).before 5 t d5) S)
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, H5, ⟨%S', %hP, HS⟩⟩
  isplitl [HS HR HP]
  · isplitl [HS]
    · iexists S'; isplitr
      · ipureintro; exact Holds.put V c t (by omega) hS hP
      iexact HS
    isplitl [HR]; · iexact HR
    iexact HP
  isplitl [Ho]; · iexact Ho
  isplitl [H0]
  · iapply (leave_live (dat V c) 0 t rfl); rewrite [after_0]; iexact H0
  isplitl [H1]
  · iapply (leave_live (dat V c) 1 t rfl); rewrite [after_1]; iexact H1
  isplitl [H2]
  · iapply (leave_live (dat V c) 2 t rfl); rewrite [after_2]; iexact H2
  isplitl [H3]
  · iapply (leave_live (dat V c) 3 t (by rw [idle_3]; exact decide_eq_false (by omega))); rewrite [after_3]; rewrite [← Holds.slot V c t (by omega) hS]; iexact H3
  isplitl [H4]
  · iapply (leave_live (dat V c) 4 t (by rw [idle_4]; exact decide_eq_false (by omega))); rewrite [after_4]; rewrite [cap_of_lt t (by omega)]; unfold cd; iexact H4
  iapply (leave_live (dat V c) 5 t (by rw [idle_5]; exact decide_eq_false (by omega))); rewrite [after_5]; rewrite [cap_of_lt t (by omega)]; iexact H5

/-- A point of the thirteenth round: the last row block is multiplied. -/
theorem sound_C (c : Dev nD) (t : Fin cfg1.N) (h : 192 ≤ t.val) :
    bodyPre V c t ⊢ wp frame (wpE (defs₀ (F := F)) Variants.none c none) Set.univ (bodyAt1 t) (fun _ => bodyPost V c t) := by
  have ht : t.val < 208 := t.isLt
  unfold bodyPre bodyPost bodyAt1
  rewrite [Φ_cast, Φ_succ, show (dat V c).owesAt () t.succ = (dat V c).owesAt () t.castSucc from rfl]
  simp only [before_0, before_1, before_2]
  unfold Φ
  iintro ⟨⟨⟨%S, %hS, HS⟩, HR, HP⟩, Ho, ⟨%d0, H0⟩, ⟨%d1, H1⟩, ⟨%d2, H2⟩, ⟨%d3, H3⟩, ⟨%d4, H4⟩, ⟨%d5, H5⟩⟩
  iapply (runC c (grid1.coords t) _ _ _ _ _ _ _ _ _ _ _ _ _ _ (fun h => absurd ((cond1_iff t).1 h) (by omega)) ((cond2_iff t).2 (by omega))
    (iblk V c 0 t) (iblk V c 1 t) (iblk V c 2 t) ((dat V c).before 3 t d3) ((dat V c).before 4 t d4) ((dat V c).before 5 t d5) S)
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, H5, HS⟩
  isplitl [HS HR HP]
  · isplitl [HS]
    · iexists S; isplitr
      · ipureintro; exact Holds.keep V c t (by omega) hS
      iexact HS
    isplitl [HR]; · iexact HR
    iexact HP
  isplitl [Ho]; · iexact Ho
  isplitl [H0]
  · iapply (leave_live (dat V c) 0 t rfl); rewrite [after_0]; iexact H0
  isplitl [H1]
  · iapply (leave_live (dat V c) 1 t rfl); rewrite [after_1]; iexact H1
  isplitl [H2]
  · iapply (leave_live (dat V c) 2 t rfl); rewrite [after_2]; iexact H2
  isplitl [H3]
  · iapply (leave_live (dat V c) 3 t (by rw [idle_3]; exact decide_eq_false (by omega))); rewrite [after_3]; rewrite [← Holds.slot V c t (by omega) hS]; iexact H3
  isplitl [H4]
  · iapply (leave_idle (dat V c) 4 t d4 (by rw [idle_4]; exact decide_eq_true (by omega)) (fun _ => before_4 V c t (by omega) d4)); iexact H4
  iapply (leave_idle (dat V c) 5 t d5 (by rw [idle_5]; exact decide_eq_true (by omega)) (fun _ => before_5 V c t (by omega) d5)); iexact H5

/-- The body table's row at point `t`'s slots is the body. -/
theorem defs₀_row (t : Fin cfg1.N) : defs₀ (F := F) .tc cfg1.body (cfg1.bodyArgs t (cfg1.slots t)) = bodyAt1 t := by
  unfold defs₀; rw [Defs.onTc_tc]

theorem sound_body (c : Dev nD) (t : Fin cfg1.N) :
    bodyPre V c t ⊢ wp frame (wpE (defs₀ (F := F)) Variants.none c none) Set.univ (bodyAt1 t) (fun _ => bodyPost V c t) := by
  by_cases h1 : t.val < 16
  · exact sound_A V c t h1
  by_cases h2 : t.val < 192
  · exact sound_B V c t (by omega) h2
  exact sound_C V c t (by omega)

/-- The body obligation, at every point. -/
theorem body_obligation (c : Dev nD) : BodyObligation (dat V c) (defs₀ (F := F)) Variants.none () Set.univ := fun t => by
  rw [bigSep_W1, bigSep_W1, defs₀_row]
  exact triple_restated (sound_body V c t) rfl .rfl fun _ => .rfl

/-- The scoped buffers that are no staging buffer of this call: its scratch buffer, and the others. -/
theorem rest_eq (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- The region is entered from its scoped buffers and the random-number register, -/
theorem hin (c : Dev nD) :
    iprop(Pipeline.scopedRest (Ix := Unit) (Name := ℕ) (U := UR sig nD τ) (Lvl := ℕ) (Val := Elt F) spec1 c ∗ ∃ r, prngReg c r) ⊢ Φ V c 0 := by
  rw [rest_eq]
  unfold Φ
  iintro ⟨⟨HS, HR⟩, HP⟩
  isplitl [HS]
  · icases HS with ⟨%f, HS⟩
    iexists f
    isplitr; · ipureintro; exact Holds.zero V c f
    rw [owns_whole]
    iexact HS
  isplitl [HR]; · iexact HR
  iexact HP

/-- and gives them back at the end. -/
theorem hout (c : Dev nD) (n : ℕ) :
    Φ V c n ⊢ iprop(Pipeline.scopedRest (Ix := Unit) (Name := ℕ) (U := UR sig nD τ) (Lvl := ℕ) (Val := Elt F) spec1 c ∗ ∃ r, prngReg c r) := by
  rw [rest_eq]
  unfold Φ
  iintro ⟨⟨%S, %hS, HS⟩, HR, HP⟩
  isplitl [HS HR]
  · isplitl [HS]
    · iexists S
      rw [← owns_whole (c : Thread nD τ) cc1_scratch0 fullShare S]
      iexact HS
    iexact HR
  iexact HP

end Cert.Kernel.Run.K1

end
-- ==== Proof.Run.Wgrad.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit
public import Idealize.ShloMosaic.Lib.WritesUnit
public import Idealize.ShloMosaic.Lib.VecWindow
public import Idealize.ShloMosaic.Lib.Pointwise.Index
public import Idealize.ShloMosaic.Lib.Pipeline.ValueKit.Acc
public import Idealize.ShloMosaic.Lib.WholeRead
public import Idealize.ShloMosaic.Lib.Pointwise
public import Idealize.ShloMosaic.Lib.Pipeline.TableIdle
public import proofs.«01_k».proof.Proof.Run.Common

@[expose] public section

noncomputable section

namespace Cert.Kernel.Run.K2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body: the product of the two blocks, scaled and added to the block of the gradient. -/
theorem run (c : Dev nD) (i : grid2.Coords) (arg2 : Memref sig .tc .smem S1x3 .f32) (harg2 : arg2.IsWhole) (arg3 : Memref sig .tc .vmem S1024x12288 .fp8e5m2) (harg3 : arg3.IsWhole) (arg4 : Memref sig .tc .vmem S12288x512 .fp8e4m3) (harg4 : arg4.IsWhole) (arg5 : Memref sig .tc .vmem S1024x512 .f32) (harg5 : arg5.IsWhole) (arg6 : Memref sig .tc .vmem S1024x512 .f32) (harg6 : arg6.IsWhole)
    (x0 : Vec F S1x3 .f32) (x1 : Vec F S1024x12288 .fp8e5m2) (x2 : Vec F S12288x512 .fp8e4m3) (x3 : Vec F S1024x512 .f32) (d4 : Vec F S1024x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d4
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k2_pay1 x1 x2 x3 (scal x0 2))) -∗ K ⟨⟩))
      ⊢ wp frame (wpE (defs₀ (F := F)) Variants.none c none) Set.univ (cc2_wgrad i arg2 harg2 arg3 harg3 arg4 harg4 arg5 harg5 arg6 harg6) K := by
  simp only [cc2_wgrad_eq_skeleton]; unfold cc2_wgrad_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1; obtain rfl := harg4.eq_unread hf2; obtain rfl := harg5.eq_unread hf3
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr; swap; · iexact H4
  ipureintro; rw [store_whole _ (by decide)]; unfold run.sl.r; rw [load_whole harg3 (by decide), load_whole harg4 (by decide), load_whole harg5 (by decide), load_scal (n := 2) harg2 x0 2 rfl]

/-! ## The pipeline's proof data -/

variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The region's invariant: the scoped buffers that are no staging buffer of it, and the random-number register. -/
def Φ (c : Dev nD) : sProp 𝕄 :=
  iprop(Pipeline.scopedRest (Ix := Unit) (Name := ℕ) (U := UR sig nD τ) (Lvl := ℕ) (Val := Elt F) spec2 c ∗ ∃ r, prngReg c r)

/-- The pipeline's proof data: the inputs' buffers keep their blocks; the output's holds the updated block of the gradient. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => k2_pay1 (iblk V c 1 t) (iblk V c 2 t) (iblk V c 3 t) (scal (iblk V c 0 t) 2)
  Φ _ := Φ c
  q _ := fullShare
  owed _ := 0

theorem A_eq (c : Dev nD) (w : Fin cfg2.W) : (dat V c).A w = V c (Pipeline.arrRef spec2 w) := by dsimp only [dat]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = k2_pay1 (iblk V c 1 t) (iblk V c 2 t) (iblk V c 3 t) (scal (iblk V c 0 t) 2) := by dsimp only [dat]

/-- Each input's current buffer holds its block at every point. -/
theorem before_0 (c : Dev nD) (t : Fin cfg2.N) (d) : (dat V c).before 0 t d = iblk V c 0 t :=
  ((dat V c).before_in_eq_fetched 0 rfl (fun _ => rfl) (fun _ _ _ => rfl) (fun t => by rw [after_0]; unfold Dat.blockOf iblk; rw [A_eq]) t d).trans
    (by unfold Dat.fetched Dat.blockOf iblk; rw [A_eq]; try rfl)
theorem before_1 (c : Dev nD) (t : Fin cfg2.N) (d) : (dat V c).before 1 t d = iblk V c 1 t :=
  ((dat V c).before_in_eq_fetched 1 rfl (fun _ => rfl) (fun _ _ _ => rfl) (fun t => by rw [after_1]; unfold Dat.blockOf iblk; rw [A_eq]) t d).trans
    (by unfold Dat.fetched Dat.blockOf iblk; rw [A_eq]; try rfl)
theorem before_2 (c : Dev nD) (t : Fin cfg2.N) (d) : (dat V c).before 2 t d = iblk V c 2 t :=
  ((dat V c).before_in_eq_fetched 2 rfl (fun _ => rfl) (fun _ _ _ => rfl) (fun t => by rw [after_2]; unfold Dat.blockOf iblk; rw [A_eq]) t d).trans
    (by unfold Dat.fetched Dat.blockOf iblk; rw [A_eq]; try rfl)
theorem before_3 (c : Dev nD) (t : Fin cfg2.N) (d) : (dat V c).before 3 t d = iblk V c 3 t :=
  ((dat V c).before_in_eq_fetched 3 rfl (fun _ => rfl) (fun _ _ _ => rfl) (fun t => by rw [after_3]; unfold Dat.blockOf iblk; rw [A_eq]) t d).trans
    (by unfold Dat.fetched Dat.blockOf iblk; rw [A_eq]; try rfl)

/-! ## The body obligation -/

/-- What the body is called with at point `t`, -/
def bodyPre (c : Dev nD) (t : Fin cfg2.N) : sProp 𝕄 :=
  iprop((dat V c).Φ t.castSucc ∗ (dat V c).owesAt () t.castSucc
    ∗ (∃ d, owns (c : Thread nD τ) ((cfg2.win 0).stage (cfg2.slots t 0)) fullShare ((dat V c).before 0 t d))
    ∗ (∃ d, owns (c : Thread nD τ) ((cfg2.win 1).stage (cfg2.slots t 1)) fullShare ((dat V c).before 1 t d))
    ∗ (∃ d, owns (c : Thread nD τ) ((cfg2.win 2).stage (cfg2.slots t 2)) fullShare ((dat V c).before 2 t d))
    ∗ (∃ d, owns (c : Thread nD τ) ((cfg2.win 3).stage (cfg2.slots t 3)) fullShare ((dat V c).before 3 t d))
    ∗ (∃ d, owns (c : Thread nD τ) ((cfg2.win 4).stage (cfg2.slots t 4)) fullShare ((dat V c).before 4 t d)))

/-- and what it returns. -/
def bodyPost (c : Dev nD) (t : Fin cfg2.N) : sProp 𝕄 :=
  iprop((dat V c).Φ t.succ ∗ (dat V c).owesAt () t.succ ∗ (dat V c).leavesExact 0 t ∗ (dat V c).leavesExact 1 t ∗ (dat V c).leavesExact 2 t ∗ (dat V c).leavesExact 3 t ∗ (dat V c).leavesExact 4 t)

theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  rewrite [show (dat V c).Φ t.succ = (dat V c).Φ t.castSucc from rfl, show (dat V c).owesAt () t.succ = (dat V c).owesAt () t.castSucc from rfl]
  simp only [before_0, before_1, before_2, before_3]
  iintro ⟨HΦ, Ho, ⟨%d0, H0⟩, ⟨%d1, H1⟩, ⟨%d2, H2⟩, ⟨%d3, H3⟩, ⟨%d4, H4⟩⟩
  iapply (run c (grid2.coords t) _ _ _ _ _ _ _ _ _ _ (iblk V c 0 t) (iblk V c 1 t) (iblk V c 2 t) (iblk V c 3 t) ((dat V c).before 4 t d4))
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Ho]; · iexact Ho
  isplitl [H0]
  · iapply (leave_live (dat V c) 0 t rfl); rewrite [after_0]; iexact H0
  isplitl [H1]
  · iapply (leave_live (dat V c) 1 t rfl); rewrite [after_1]; iexact H1
  isplitl [H2]
  · iapply (leave_live (dat V c) 2 t rfl); rewrite [after_2]; iexact H2
  isplitl [H3]
  · iapply (leave_live (dat V c) 3 t rfl); rewrite [after_3]; iexact H3
  iapply (leave_live (dat V c) 4 t rfl); rewrite [after_4]; iexact H4

/-- The body table's row at point `t`'s slots is the body. -/
theorem defs₀_row (t : Fin cfg2.N) : defs₀ (F := F) .tc cfg2.body (cfg2.bodyArgs t (cfg2.slots t)) = bodyAt2 t := by
  unfold defs₀; rw [Defs.onTc_tc]

/-- The body obligation, at every point. -/
theorem body_obligation (c : Dev nD) : BodyObligation (dat V c) (defs₀ (F := F)) Variants.none () Set.univ := fun t => by
  rw [bigSep_W2, bigSep_W2, defs₀_row]
  exact triple_restated (sound_body V c t) rfl .rfl fun _ => .rfl

end Cert.Kernel.Run.K2

end
-- ==== Proof.Run.Run.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit
public import Idealize.ShloMosaic.Lib.WritesUnit
public import Idealize.ShloMosaic.Lib.VecWindow
public import Idealize.ShloMosaic.Lib.Pointwise.Index
public import Idealize.ShloMosaic.Lib.Pipeline.ValueKit.Acc
public import Idealize.ShloMosaic.Lib.WholeRead
public import Idealize.ShloMosaic.Lib.Pointwise
public import Idealize.ShloMosaic.Lib.Pipeline.TableIdle
public import Idealize.ShloMosaic.Lib.Pipeline.Regions
public import Idealize.ShloMosaic.Lib.Pipeline.RegionArrays
public import proofs.«01_k».proof.Proof.Gen.Kernel.Regions
public import proofs.«01_k».proof.Proof.Run.Amax
public import proofs.«01_k».proof.Proof.Run.Dgrad
public import proofs.«01_k».proof.Proof.Run.Wgrad

@[expose] public section

noncomputable section

/-! The whole run: the three kernels' records joined to the host stretches between them, with the contents of every unscoped
    buffer at the end. -/

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

/-! ## What the kernels leave -/

section

variable (m : (ℓ : Loc nD τ sig) → Buf (Elt F) ℓ)

/-- The first kernel's entry contents: the launch's, after the two host casts. -/
abbrev Ve0 (c : Dev nD) (b : Ref sig .tc) : Buf (Elt F) ((c : Thread nD τ).loc b) := V1 m c (Proc.devRef .tc b)

/-- The buffers after the first kernel: the largest magnitude's cell is what its pipeline leaves. -/
def X2 (c : Dev nD) : Valuation τ sig (Elt F) := Function.update (V1 m c) main_v2 ((K0.dat (Ve0 m) c).arrAt 1 cfg0.N)

/-- The contents left, as far as the first kernel. -/
def outsA : Outs (F := F) := fun _ r c => X2 m c (Proc.devRef .tc r)

/-- The second kernel's entry contents: after the host's scale arithmetic. -/
abbrev VeA (c : Dev nD) (b : Ref sig .tc) : Buf (Elt F) ((c : Thread nD τ).loc b) := V7 m (outsA m) c (Proc.devRef .tc b)

/-- The buffers after the second kernel: the gradient, the codes and the transposed codes are what its pipeline leaves. -/
def X8 (c : Dev nD) : Valuation τ sig (Elt F) :=
  Function.update (Function.update (Function.update (V7 m (outsA m) c) main_v36_0 ((K1.dat (VeA m) c).arrAt 3 cfg1.N))
    main_v36_1 ((K1.dat (VeA m) c).arrAt 4 cfg1.N)) main_v36_2 ((K1.dat (VeA m) c).arrAt 5 cfg1.N)

/-- The contents left, as far as the second kernel. -/
def outsB : Outs (F := F)
  | 2 => fun r c => X2 m c (Proc.devRef .tc r)
  | _ => fun r c => X8 m c (Proc.devRef .tc r)

/-- The third kernel's entry contents. -/
abbrev VeB (c : Dev nD) (b : Ref sig .tc) : Buf (Elt F) ((c : Thread nD τ).loc b) := V8 m (outsB m) c (Proc.devRef .tc b)

/-- The buffers after the third kernel: the weight gradient is what its pipeline leaves. -/
def X9 (c : Dev nD) : Valuation τ sig (Elt F) := Function.update (V8 m (outsB m) c) main_v37 ((K2.dat (VeB m) c).arrAt 4 cfg2.N)

/-- The contents the three kernels leave. -/
def outs : Outs (F := F)
  | 2 => fun r c => X2 m c (Proc.devRef .tc r)
  | 8 => fun r c => X8 m c (Proc.devRef .tc r)
  | _ => fun r c => X9 m c (Proc.devRef .tc r)

theorem V2_outs (c : Dev nD) : V2 m (outs m) c = V2 m (outsA m) c := rfl
theorem V3_outs (c : Dev nD) : V3 m (outs m) c = V3 m (outsA m) c := congrArg (StableHlo.after hostOps1) (V2_outs m c)
theorem V4_outs (c : Dev nD) : V4 m (outs m) c = V4 m (outsA m) c := congrArg (StableHlo.after hostOps1_1) (V3_outs m c)
theorem V5_outs (c : Dev nD) : V5 m (outs m) c = V5 m (outsA m) c := congrArg (StableHlo.after hostOps1_2) (V4_outs m c)
theorem V6_outs (c : Dev nD) : V6 m (outs m) c = V6 m (outsA m) c := congrArg (StableHlo.after hostOps1_3) (V5_outs m c)
/-- The second kernel is entered from the same contents under `outs`, -/
theorem V7_outs (c : Dev nD) : V7 m (outs m) c = V7 m (outsA m) c := congrArg (StableHlo.after hostOps1_4) (V6_outs m c)
theorem V2_outsB (c : Dev nD) : V2 m (outsB m) c = V2 m (outsA m) c := rfl
theorem V3_outsB (c : Dev nD) : V3 m (outsB m) c = V3 m (outsA m) c := congrArg (StableHlo.after hostOps1) (V2_outsB m c)
theorem V4_outsB (c : Dev nD) : V4 m (outsB m) c = V4 m (outsA m) c := congrArg (StableHlo.after hostOps1_1) (V3_outsB m c)
theorem V5_outsB (c : Dev nD) : V5 m (outsB m) c = V5 m (outsA m) c := congrArg (StableHlo.after hostOps1_2) (V4_outsB m c)
theorem V6_outsB (c : Dev nD) : V6 m (outsB m) c = V6 m (outsA m) c := congrArg (StableHlo.after hostOps1_3) (V5_outsB m c)
theorem V7_outsB (c : Dev nD) : V7 m (outsB m) c = V7 m (outsA m) c := congrArg (StableHlo.after hostOps1_4) (V6_outsB m c)
/-- and so is the third. -/
theorem V8_outs (c : Dev nD) : V8 m (outs m) c = V8 m (outsB m) c := by
  show Function.update (Function.update (Function.update (V7 m (outs m) c) main_v36_0 _) main_v36_1 _) main_v36_2 _
    = Function.update (Function.update (Function.update (V7 m (outsB m) c) main_v36_0 _) main_v36_1 _) main_v36_2 _
  rw [V7_outs, V7_outsB]
  rfl

theorem outs_v2 (c : Dev nD) : outs m 2 main_v2 c = (K0.dat (Ve0 m) c).arrAt 1 cfg0.N := by
  show X2 m c main_v2 = _
  simp only [X2, Function.update_self]
theorem outs_v36_2 (c : Dev nD) : outs m 8 main_v36_2 c = (K1.dat (VeA m) c).arrAt 5 cfg1.N := by
  show X8 m c main_v36_2 = _
  simp only [X8, Function.update_self]
theorem outs_v36_1 (c : Dev nD) : outs m 8 main_v36_1 c = (K1.dat (VeA m) c).arrAt 4 cfg1.N := by
  show X8 m c main_v36_1 = _
  rw [X8, Function.update_of_ne (by decide), Function.update_self]
theorem outs_v36_0 (c : Dev nD) : outs m 8 main_v36_0 c = (K1.dat (VeA m) c).arrAt 3 cfg1.N := by
  show X8 m c main_v36_0 = _
  rw [X8, Function.update_of_ne (by decide), Function.update_of_ne (by decide), Function.update_self]
theorem outs_v37 (c : Dev nD) : outs m 9 main_v37 c = (K2.dat (VeB m) c).arrAt 4 cfg2.N := by
  show X9 m c main_v37 = _
  simp only [X9, Function.update_self]

theorem V2_at (c : Dev nD) : V2 m (outs m) c main_v2 = (K0.dat (Ve0 m) c).arrAt 1 cfg0.N := by
  rw [← outs_v2]; simp only [V2, Function.update_self]
theorem V8_at_2 (c : Dev nD) : V8 m (outs m) c main_v36_2 = (K1.dat (VeA m) c).arrAt 5 cfg1.N := by
  rw [← outs_v36_2]; simp only [V8, Function.update_self]
theorem V8_at_1 (c : Dev nD) : V8 m (outs m) c main_v36_1 = (K1.dat (VeA m) c).arrAt 4 cfg1.N := by
  rw [← outs_v36_1, V8, Function.update_of_ne (by decide), Function.update_self]
theorem V8_at_0 (c : Dev nD) : V8 m (outs m) c main_v36_0 = (K1.dat (VeA m) c).arrAt 3 cfg1.N := by
  rw [← outs_v36_0, V8, Function.update_of_ne (by decide), Function.update_of_ne (by decide), Function.update_self]
theorem V9_at (c : Dev nD) : V9 m (outs m) c main_v37 = (K2.dat (VeB m) c).arrAt 4 cfg2.N := by
  rw [← outs_v37]; simp only [V9, Function.update_self]

/-! ## The regions' arrays -/

/-- Each window's array of region 0 is in the region's array set, -/
theorem arr0_mem (w : Fin cfg0.W) : (Proc.devRef .tc (Pipeline.arrRef spec0 w) : DevRef τ sig) ∈ Pipeline.arrRefs (τ := τ) spec0 :=
  Finset.mem_map_of_mem _ (Finset.mem_image_of_mem _ (Finset.mem_univ w))
/-- they are unscoped buffers, -/
theorem arr0_S : Pipeline.arrRefs (τ := τ) spec0 ⊆ Pipeline.ucRefs τ sig :=
  Pipeline.arrRefs_sub_ucRefs spec0 (by decide)
/-- and the region changes no other buffer. -/
theorem rest0_eq (c : Dev nD) : ∀ b ∈ (Pipeline.ucRefs τ sig) \ Pipeline.arrRefs (τ := τ) spec0, V2 m (outs m) c b = V1 m c b := fun b hb => by
  have hn : b ∉ Pipeline.arrRefs (τ := τ) spec0 := (Finset.mem_sdiff.mp hb).2
  have h1 : b ≠ Proc.devRef .tc main_v2 := by rintro rfl; exact hn (arr0_mem 1)
  simp only [V2, Function.update_of_ne h1]

/-- Each window's array of region 1 is in the region's array set, -/
theorem arr1_mem (w : Fin cfg1.W) : (Proc.devRef .tc (Pipeline.arrRef spec1 w) : DevRef τ sig) ∈ Pipeline.arrRefs (τ := τ) spec1 :=
  Finset.mem_map_of_mem _ (Finset.mem_image_of_mem _ (Finset.mem_univ w))
/-- they are unscoped buffers, -/
theorem arr1_S : Pipeline.arrRefs (τ := τ) spec1 ⊆ Pipeline.ucRefs τ sig :=
  Pipeline.arrRefs_sub_ucRefs spec1 (by decide)
/-- and the region changes no other buffer. -/
theorem rest1_eq (c : Dev nD) : ∀ b ∈ (Pipeline.ucRefs τ sig) \ Pipeline.arrRefs (τ := τ) spec1, V8 m (outs m) c b = V7 m (outs m) c b := fun b hb => by
  have hn : b ∉ Pipeline.arrRefs (τ := τ) spec1 := (Finset.mem_sdiff.mp hb).2
  have h3 : b ≠ Proc.devRef .tc main_v36_0 := by rintro rfl; exact hn (arr1_mem 3)
  have h4 : b ≠ Proc.devRef .tc main_v36_1 := by rintro rfl; exact hn (arr1_mem 4)
  have h5 : b ≠ Proc.devRef .tc main_v36_2 := by rintro rfl; exact hn (arr1_mem 5)
  simp only [V8, Function.update_of_ne h3, Function.update_of_ne h4, Function.update_of_ne h5]

/-- Each window's array of region 2 is in the region's array set, -/
theorem arr2_mem (w : Fin cfg2.W) : (Proc.devRef .tc (Pipeline.arrRef spec2 w) : DevRef τ sig) ∈ Pipeline.arrRefs (τ := τ) spec2 :=
  Finset.mem_map_of_mem _ (Finset.mem_image_of_mem _ (Finset.mem_univ w))
/-- they are unscoped buffers, -/
theorem arr2_S : Pipeline.arrRefs (τ := τ) spec2 ⊆ Pipeline.ucRefs τ sig :=
  Pipeline.arrRefs_sub_ucRefs spec2 (by decide)
/-- and the region changes no other buffer. -/
theorem rest2_eq (c : Dev nD) : ∀ b ∈ (Pipeline.ucRefs τ sig) \ Pipeline.arrRefs (τ := τ) spec2, V9 m (outs m) c b = V8 m (outs m) c b := fun b hb => by
  have hn : b ∉ Pipeline.arrRefs (τ := τ) spec2 := (Finset.mem_sdiff.mp hb).2
  have h4 : b ≠ Proc.devRef .tc main_v37 := by rintro rfl; exact hn (arr2_mem 4)
  simp only [V9, Function.update_of_ne h4]

/-! ## The records -/

/-- The proof data of the three pipelines. -/
def pdats : (p : Fin 3) → (c : Dev nD) → Dat τ (Elt F) Unit ℕ (UR sig nD τ) ℕ (cfgs p) c
  | ⟨0, _⟩ => fun c => K0.dat (Ve0 m) c
  | ⟨1, _⟩ => fun c => K1.dat (VeA m) c
  | ⟨2, _⟩ => fun c => K2.dat (VeB m) c

end

/-- One index at every TensorCore's semaphore, -/
def L : GSem nD τ sig → Finset Unit := fun g => if g.1.2 = .tc then {()} else ∅
/-- all at one level: a core owes nothing. -/
def lv : GSem nD τ sig → Unit → ℕ := fun _ _ => 0

theorem hL (g : GSem nD τ sig) (h : g.1.2 ≠ .tc) : L g = ∅ := if_neg h

theorem hcut (p : Fin 3) : Pipeline.LevelCut (pcfgs (F := F)) adm () L lv p 0 (fun _ => 0) where
  hι _ _ _ := by unfold L; rw [if_pos rfl]; exact Finset.mem_singleton_self _
  hιb _ _ _ := le_refl _
  hD _ _ _ h := absurd h (lt_irrefl _)

/-- What a core holds beside the buffers between two items: its random-number register, and that it owes nothing. -/
def E (_ : Fin 4) (c : Dev nD) : sProp 𝕄 := iprop((∃ r, prngReg c r) ∗ ∃ W, owes (c : Thread nD τ) (0 : CellTallies nD τ sig Unit) W)

section

variable (m : (ℓ : Loc nD τ sig) → Buf (Elt F) ℓ)

-- a library definition stated over `pin pcs a p` unifies with the pinned configuration only when unification may unfold plain
-- definitions in a metavariable's type
set_option backward.isDefEq.respectTransparency.types false in
/-- Region 0's record: its arrays in and out, every other buffer riding along. -/
def R0 : RegionSeg (pcfgs (F := F)) adm (pdats m) () defs₀ Variants.none L lv 0 :=
  Pipeline.RegionSeg.ofHeld (pcfgs (F := F)) adm (pdats m) () defs₀ Variants.none L lv 0 0
    (fun c => iprop(∃ r, prngReg c r)) (fun c => iprop(∃ r, prngReg c r))
    launch0.toP rfl
    (fun c => (K0.body_obligation (Ve0 m) c).loose) (fun _ _ => rfl) (fun _ => rfl)
    (fun c => (pdats m 0 c).share_full fun _ => rfl) (fun c => K0.hin (Ve0 m) c) (fun c => K0.hout (Ve0 m) c _) (fun _ => 0) (hcut 0)
    (fun c => StableHlo.held (c : Thread nD τ) ((Pipeline.ucRefs τ sig) \ Pipeline.arrRefs (τ := τ) spec0) (V1 m c))
    (V1 m) (V2 m (outs m)) (fun c w => (K0.A_eq (Ve0 m) c w))
    (fun c => fun
      | 0 => ((pdats m 0 c).arrAt_in 0 rfl _).trans (((K0.A_eq (Ve0 m) c 0)).trans (V2_of m (outs m) c (Pipeline.arrRef spec0 0) (by decide)).symm)
      | 1 => (V2_at m c).symm
      | ⟨_ + 2, h⟩ => absurd h (Nat.not_lt.2 (Nat.le_add_left _ _)))

/-- It is entered from the thread state before it, -/
theorem hpre0 (c : Dev nD) :
    iprop(StableHlo.held (c : Thread nD τ) (Pipeline.ucRefs τ sig) (V1 m c) ∗ E 0 c) ⊢ (R0 m).pre c := by
  show _ ⊢ iprop(StableHlo.held (c : Thread nD τ) (Pipeline.arrRefs (τ := τ) spec0) (V1 m c) ∗ (∃ r, prngReg c r)
    ∗ StableHlo.held (c : Thread nD τ) ((Pipeline.ucRefs τ sig) \ Pipeline.arrRefs (τ := τ) spec0) (V1 m c)
    ∗ ∃ W, owes (c : Thread nD τ) (0 : CellTallies nD τ sig Unit) W)
  rw [StableHlo.held_sub_split (c : Thread nD τ) arr0_S (V1 m c)]
  unfold E
  iintro ⟨⟨Ha, Hr⟩, Hp, HO⟩
  isplitl [Ha]; · iexact Ha
  isplitl [Hp]; · iexact Hp
  isplitl [Hr]; · iexact Hr
  iexact HO

/-- and left at the one after it. -/
theorem hpost0 (c : Dev nD) :
    (R0 m).post c ⊢ iprop(StableHlo.held (c : Thread nD τ) (Pipeline.ucRefs τ sig) (V2 m (outs m) c) ∗ E 1 c) := by
  show iprop(StableHlo.held (c : Thread nD τ) (Pipeline.arrRefs (τ := τ) spec0) (V2 m (outs m) c) ∗ (∃ r, prngReg c r)
    ∗ StableHlo.held (c : Thread nD τ) ((Pipeline.ucRefs τ sig) \ Pipeline.arrRefs (τ := τ) spec0) (V1 m c)
    ∗ ∃ W, owes (c : Thread nD τ) (0 : CellTallies nD τ sig Unit) W) ⊢ _
  rw [StableHlo.held_sub_split (c : Thread nD τ) arr0_S (V2 m (outs m) c),
    StableHlo.held_congr (c : Thread nD τ) (S := (Pipeline.ucRefs τ sig) \ Pipeline.arrRefs (τ := τ) spec0) (rest0_eq m c)]
  unfold E
  iintro ⟨Ha, Hp, Hr, HO⟩
  isplitl [Ha Hr]; · isplitl [Ha] <;> iassumption
  isplitl [Hp]; · iexact Hp
  iexact HO

-- a library definition stated over `pin pcs a p` unifies with the pinned configuration only when unification may unfold plain
-- definitions in a metavariable's type
set_option backward.isDefEq.respectTransparency.types false in
/-- Region 1's record: its arrays in and out, every other buffer riding along. -/
def R1 : RegionSeg (pcfgs (F := F)) adm (pdats m) () defs₀ Variants.none L lv 1 :=
  Pipeline.RegionSeg.ofHeld (pcfgs (F := F)) adm (pdats m) () defs₀ Variants.none L lv 1 0
    (fun c => iprop(∃ r, prngReg c r)) (fun c => iprop(∃ r, prngReg c r))
    launch1.toP rfl
    (fun c => (K1.body_obligation (VeA m) c).loose) (fun _ _ => rfl) (fun _ => rfl)
    (fun c => (pdats m 1 c).share_full fun _ => rfl) (fun c => K1.hin (VeA m) c) (fun c => K1.hout (VeA m) c _) (fun _ => 0) (hcut 1)
    (fun c => StableHlo.held (c : Thread nD τ) ((Pipeline.ucRefs τ sig) \ Pipeline.arrRefs (τ := τ) spec1) (V7 m (outs m) c))
    (V7 m (outs m)) (V8 m (outs m)) (fun c w => (K1.A_eq (VeA m) c w).trans (congrFun (V7_outs m c) _).symm)
    (fun c => fun
      | 0 => ((pdats m 1 c).arrAt_in 0 rfl _).trans (((K1.A_eq (VeA m) c 0).trans (congrFun (V7_outs m c) _).symm).trans (V8_of m (outs m) c (Pipeline.arrRef spec1 0) (by decide)).symm)
      | 1 => ((pdats m 1 c).arrAt_in 1 rfl _).trans (((K1.A_eq (VeA m) c 1).trans (congrFun (V7_outs m c) _).symm).trans (V8_of m (outs m) c (Pipeline.arrRef spec1 1) (by decide)).symm)
      | 2 => ((pdats m 1 c).arrAt_in 2 rfl _).trans (((K1.A_eq (VeA m) c 2).trans (congrFun (V7_outs m c) _).symm).trans (V8_of m (outs m) c (Pipeline.arrRef spec1 2) (by decide)).symm)
      | 3 => (V8_at_0 m c).symm
      | 4 => (V8_at_1 m c).symm
      | 5 => (V8_at_2 m c).symm
      | ⟨_ + 6, h⟩ => absurd h (Nat.not_lt.2 (Nat.le_add_left _ _)))

/-- It is entered from the thread state before it, -/
theorem hpre1 (c : Dev nD) :
    iprop(StableHlo.held (c : Thread nD τ) (Pipeline.ucRefs τ sig) (V7 m (outs m) c) ∗ E 1 c) ⊢ (R1 m).pre c := by
  show _ ⊢ iprop(StableHlo.held (c : Thread nD τ) (Pipeline.arrRefs (τ := τ) spec1) (V7 m (outs m) c) ∗ (∃ r, prngReg c r)
    ∗ StableHlo.held (c : Thread nD τ) ((Pipeline.ucRefs τ sig) \ Pipeline.arrRefs (τ := τ) spec1) (V7 m (outs m) c)
    ∗ ∃ W, owes (c : Thread nD τ) (0 : CellTallies nD τ sig Unit) W)
  rw [StableHlo.held_sub_split (c : Thread nD τ) arr1_S (V7 m (outs m) c)]
  unfold E
  iintro ⟨⟨Ha, Hr⟩, Hp, HO⟩
  isplitl [Ha]; · iexact Ha
  isplitl [Hp]; · iexact Hp
  isplitl [Hr]; · iexact Hr
  iexact HO

/-- and left at the one after it. -/
theorem hpost1 (c : Dev nD) :
    (R1 m).post c ⊢ iprop(StableHlo.held (c : Thread nD τ) (Pipeline.ucRefs τ sig) (V8 m (outs m) c) ∗ E 2 c) := by
  show iprop(StableHlo.held (c : Thread nD τ) (Pipeline.arrRefs (τ := τ) spec1) (V8 m (outs m) c) ∗ (∃ r, prngReg c r)
    ∗ StableHlo.held (c : Thread nD τ) ((Pipeline.ucRefs τ sig) \ Pipeline.arrRefs (τ := τ) spec1) (V7 m (outs m) c)
    ∗ ∃ W, owes (c : Thread nD τ) (0 : CellTallies nD τ sig Unit) W) ⊢ _
  rw [StableHlo.held_sub_split (c : Thread nD τ) arr1_S (V8 m (outs m) c),
    StableHlo.held_congr (c : Thread nD τ) (S := (Pipeline.ucRefs τ sig) \ Pipeline.arrRefs (τ := τ) spec1) (rest1_eq m c)]
  unfold E
  iintro ⟨Ha, Hp, Hr, HO⟩
  isplitl [Ha Hr]; · isplitl [Ha] <;> iassumption
  isplitl [Hp]; · iexact Hp
  iexact HO

-- a library definition stated over `pin pcs a p` unifies with the pinned configuration only when unification may unfold plain
-- definitions in a metavariable's type
set_option backward.isDefEq.respectTransparency.types false in
/-- Region 2's record: its arrays in and out, every other buffer riding along. -/
def R2 : RegionSeg (pcfgs (F := F)) adm (pdats m) () defs₀ Variants.none L lv 2 :=
  Pipeline.RegionSeg.ofHeld (pcfgs (F := F)) adm (pdats m) () defs₀ Variants.none L lv 2 0
    (fun c => iprop(∃ r, prngReg c r)) (fun c => iprop(∃ r, prngReg c r))
    launch2.toP rfl
    (fun c => (K2.body_obligation (VeB m) c).loose) (fun _ _ => rfl) (fun _ => rfl)
    (fun c => (pdats m 2 c).share_full fun _ => rfl) (fun _ => .rfl) (fun _ => .rfl) (fun _ => 0) (hcut 2)
    (fun c => StableHlo.held (c : Thread nD τ) ((Pipeline.ucRefs τ sig) \ Pipeline.arrRefs (τ := τ) spec2) (V8 m (outs m) c))
    (V8 m (outs m)) (V9 m (outs m)) (fun c w => (K2.A_eq (VeB m) c w).trans (congrFun (V8_outs m c) _).symm)
    (fun c => fun
      | 0 => ((pdats m 2 c).arrAt_in 0 rfl _).trans (((K2.A_eq (VeB m) c 0).trans (congrFun (V8_outs m c) _).symm).trans (V9_of m (outs m) c (Pipeline.arrRef spec2 0) (by decide)).symm)
      | 1 => ((pdats m 2 c).arrAt_in 1 rfl _).trans (((K2.A_eq (VeB m) c 1).trans (congrFun (V8_outs m c) _).symm).trans (V9_of m (outs m) c (Pipeline.arrRef spec2 1) (by decide)).symm)
      | 2 => ((pdats m 2 c).arrAt_in 2 rfl _).trans (((K2.A_eq (VeB m) c 2).trans (congrFun (V8_outs m c) _).symm).trans (V9_of m (outs m) c (Pipeline.arrRef spec2 2) (by decide)).symm)
      | 3 => ((pdats m 2 c).arrAt_in 3 rfl _).trans (((K2.A_eq (VeB m) c 3).trans (congrFun (V8_outs m c) _).symm).trans (V9_of m (outs m) c (Pipeline.arrRef spec2 3) (by decide)).symm)
      | 4 => (V9_at m c).symm
      | ⟨_ + 5, h⟩ => absurd h (Nat.not_lt.2 (Nat.le_add_left _ _)))

/-- It is entered from the thread state before it, -/
theorem hpre2 (c : Dev nD) :
    iprop(StableHlo.held (c : Thread nD τ) (Pipeline.ucRefs τ sig) (V8 m (outs m) c) ∗ E 2 c) ⊢ (R2 m).pre c := by
  show _ ⊢ iprop(StableHlo.held (c : Thread nD τ) (Pipeline.arrRefs (τ := τ) spec2) (V8 m (outs m) c) ∗ (∃ r, prngReg c r)
    ∗ StableHlo.held (c : Thread nD τ) ((Pipeline.ucRefs τ sig) \ Pipeline.arrRefs (τ := τ) spec2) (V8 m (outs m) c)
    ∗ ∃ W, owes (c : Thread nD τ) (0 : CellTallies nD τ sig Unit) W)
  rw [StableHlo.held_sub_split (c : Thread nD τ) arr2_S (V8 m (outs m) c)]
  unfold E
  iintro ⟨⟨Ha, Hr⟩, Hp, HO⟩
  isplitl [Ha]; · iexact Ha
  isplitl [Hp]; · iexact Hp
  isplitl [Hr]; · iexact Hr
  iexact HO

/-- and left at the one after it. -/
theorem hpost2 (c : Dev nD) :
    (R2 m).post c ⊢ iprop(StableHlo.held (c : Thread nD τ) (Pipeline.ucRefs τ sig) (V9 m (outs m) c) ∗ E 3 c) := by
  show iprop(StableHlo.held (c : Thread nD τ) (Pipeline.arrRefs (τ := τ) spec2) (V9 m (outs m) c) ∗ (∃ r, prngReg c r)
    ∗ StableHlo.held (c : Thread nD τ) ((Pipeline.ucRefs τ sig) \ Pipeline.arrRefs (τ := τ) spec2) (V8 m (outs m) c)
    ∗ ∃ W, owes (c : Thread nD τ) (0 : CellTallies nD τ sig Unit) W) ⊢ _
  rw [StableHlo.held_sub_split (c : Thread nD τ) arr2_S (V9 m (outs m) c),
    StableHlo.held_congr (c : Thread nD τ) (S := (Pipeline.ucRefs τ sig) \ Pipeline.arrRefs (τ := τ) spec2) (rest2_eq m c)]
  unfold E
  iintro ⟨Ha, Hp, Hr, HO⟩
  isplitl [Ha Hr]; · isplitl [Ha] <;> iassumption
  isplitl [Hp]; · iexact Hp
  iexact HO

end

/-! ## The run -/

/-- The pipelines' protocol is the whole user algebra. -/
def EP : Emb (URounds (GSem nD τ sig) Unit) 𝕄 :=
  (uEmb (nD := nD) (sig := sig) (Ix := Unit) (Val := Elt F) (Name := ℕ) (U := UR sig nD τ) (Lvl := ℕ)).toEmb
instance EP_landsIn : (EP : Emb (URounds (GSem nD τ sig) Unit) 𝕄).LandsIn (upEmb : UEmb _ 𝕄) := by unfold EP; infer_instance

variable (m : (ℓ : Loc nD τ sig) → Buf (Elt F) ℓ) (ρ : Dev nD → PrngReg)

set_option backward.isDefEq.respectTransparency.types false in
/-- From any memory with zero counters every weakly fair execution of the program terminates; every final state holds each
    unscoped buffer of a core at the contents computed item by item, and has every semaphore counter at zero. -/
theorem run : θ_run defs (onTc (τ := τ) (main (F := F))) ⟨m, fun _ => 0, ρ⟩
    (fun r => (∀ c : Dev nD, ∀ b ∈ Pipeline.ucRefs τ sig, r.2.mem (c, b) = V10 m (outs m) c b) ∧ r.2.sem = fun _ => 0) := by
  refine Pipeline.θ_run_regions_kit_dev_sems (pcfgs (F := F)) adm (pdats m) () cellOf_inj EP defs₀ Variants.none L lv m ρ main
    (segs m (outs m) Variants.none L lv E () (pdats m) (R0 m) (R1 m) (R2 m))
    (fun c Q => by
      rewrite [main_chain c, Seg.run_eq_chain,
        show (segs m (outs m) Variants.none L lv E () (pdats m) (R0 m) (R1 m) (R2 m) c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          Prog.lift (.customCall (Pipeline.entry 2) ()),
          StableHlo.seq hostOps3 ] from rfl]
      dsimp (config := { failIfUnchanged := false }) only
      exact .rfl)
    (fun c => by simp only [segs, Seg.pipes_host, Seg.pipes_region, Seg.pipes_nil]; decide) (O₀ := 0) (hL := hL) (G := fun _ => iprop(emp))
    (u₀ := initOf (Pipeline.cells cfgs cellOf_inj) (Pipeline.launchToks cfgs cellOf_inj))
    (hu₀ := by
      refine BIBase.Entails.trans (show _ ⊢ BI.own (EP (initOf (Pipeline.cells cfgs cellOf_inj) (Pipeline.launchToks cfgs cellOf_inj))) from .rfl) ?_
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V10 m (outs m) c))
    (hch := fun c => ⟨.rfl, hpre0 m c, hpost0 m c, .rfl, .rfl, .rfl, .rfl, hpre1 m c, (hpost1 m c).trans (hpre2 m c), hpost2 m c, sep_mono .rfl (by unfold E; iintro ⟨-, HO⟩; iexact HO)⟩)
    (hinit := ?_) (QY := fun c s => ∀ b ∈ Pipeline.ucRefs τ sig, s.mem (c, b) = V10 m (outs m) c b)
    (hfin := fun c s' => ?_) (hQ := fun _ h hz => ⟨h, funext fun g => hz g (.inr (regions_no_unscoped g.2))⟩)
  · refine Pipeline.initEach L lv fun c => ?_
    rw [show unscopedBufs c (fun b => m ((c : Thread nD τ).loc b)) = StableHlo.held (c : Thread nD τ) (Pipeline.ucRefs τ sig) (V0 m c) from
      Pipeline.unscopedBufs_held c (V0 m c)]
    unfold E
    iintro ⟨⟨Hh, -, HO, -, HP, -⟩, -⟩
    imodintro
    isplitl [Hh]; · iexact Hh
    isplitl [HP]; · iexists _; iexact HP
    iexists ∅; iexact HO
  · unfold StableHlo.held
    iintro ⟨Hh, HSI⟩
    ihave Hr := (pointsTo_read_all (Pipeline.ucRefs τ sig) (fun b => ((c : Thread nD τ).1, b)) (V10 m (outs m) c) s') $$ [Hh HSI]
    · isplitl [Hh] <;> iassumption
    icases Hr with ⟨%h, HSI⟩
    imodintro
    isplitr
    · ipureintro
      exact h
    · iexact HSI

/-- The frame: the arguments end as launched. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run _ _ _).mono (fun r h => ⟨fun c =>
    ⟨(h.1 c (Proc.devRef .tc main_arg0) (Finset.mem_filter.mpr ⟨StableHlo.devRef_mem_tcRefs main_arg0, by decide⟩)).trans (V10_main_arg0 m (outs m) c),
      (h.1 c (Proc.devRef .tc main_arg1) (Finset.mem_filter.mpr ⟨StableHlo.devRef_mem_tcRefs main_arg1, by decide⟩)).trans (V10_main_arg1 m (outs m) c),
      (h.1 c (Proc.devRef .tc main_arg2) (Finset.mem_filter.mpr ⟨StableHlo.devRef_mem_tcRefs main_arg2, by decide⟩)).trans (V10_main_arg2 m (outs m) c),
      (h.1 c (Proc.devRef .tc main_arg3) (Finset.mem_filter.mpr ⟨StableHlo.devRef_mem_tcRefs main_arg3, by decide⟩)).trans (V10_main_arg3 m (outs m) c),
      (h.1 c (Proc.devRef .tc main_arg4) (Finset.mem_filter.mpr ⟨StableHlo.devRef_mem_tcRefs main_arg4, by decide⟩)).trans (V10_main_arg4 m (outs m) c),
      (h.1 c (Proc.devRef .tc main_arg5) (Finset.mem_filter.mpr ⟨StableHlo.devRef_mem_tcRefs main_arg5, by decide⟩)).trans (V10_main_arg5 m (outs m) c)⟩, h.2⟩) (run m ρ)

end Cert.Kernel.Run

end
-- ==== Proof.RunIdeal.Common.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit
public import Idealize.ShloMosaic.Lib.WritesUnit
public import Idealize.ShloMosaic.Lib.VecWindow
public import Idealize.ShloMosaic.Lib.Pointwise.Index
public import Idealize.ShloMosaic.Lib.Pipeline.ValueKit.Acc
public import Idealize.ShloMosaic.Lib.WholeRead
public import Idealize.ShloMosaic.Lib.Pointwise
public import Idealize.ShloMosaic.Lib.Pipeline.TableIdle

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-- Entry `k` of the row of three scalars: the quantisation factor, and the two scale products. -/
def scal (x0 : Vec F S1x3 .f32) (k : Fin 3) : Elt F .f32 := x0 (ix2 0 k)

/-- A load of a whole buffer reads its contents. -/
theorem load_whole {sp : Space} {s : Shape} {e : EltTy} {arg : Memref sig .tc sp s e} (harg : arg.IsWhole) {off : Fin s.rank → ℕ} (h0 : ∀ a, off a = 0)
    (inb : ∀ a, off a + s.size a ≤ s.size a) (x : s.Idx → Elt F e) :
    View.readAt (Elt F) arg.view (Rect.unit off s.size inb).toLoadRect (harg.unread x) = x := by
  simp (disch := exact h0) only [View.ld_unit_lit', View.readAt_eq_ld, Memref.IsWhole.read_unread]

/-- A store over a whole buffer leaves what was stored. -/
theorem store_whole {sp : Space} {s : Shape} {e : EltTy} {arg : Memref sig .tc sp s e} (f : arg.view.ty.Contents (Elt F)) {off : Fin s.rank → ℕ} (h0 : ∀ a, off a = 0)
    (inb : ∀ a, off a + s.size a ≤ s.size a) (w : s.Idx → Elt F e) :
    View.read (Elt F) arg.view (arg.view.writes (Elt F) f [⟨Rect.unit off s.size inb, w⟩]) = w := by
  funext y
  exact View.read_writes_cons_unit_of_mem arg.view f inb w [] y y (funext h0) (fun a => (Nat.zero_add _).symm)

/-- A scalar load from the row of three scalars. -/
theorem load_scal {arg : Memref sig .tc .smem S1x3 .f32} (harg : arg.IsWhole) (x0 : Vec F S1x3 .f32) (k : Fin 3) {n : ℕ} (hn : n = k.val)
    (inb : ∀ a, (![0, n] : Fin 2 → ℕ) a + S1x1.size a ≤ S1x3.size a) (x : (Rect.unit (s := S1x3) ![0, n] S1x1.size inb).toLoadRect.shape.Idx) :
    View.readAt (Elt F) arg.view (Rect.unit (s := S1x3) ![0, n] S1x1.size inb).toLoadRect (harg.unread x0) x = scal x0 k := by
  subst hn
  rw [harg.readAt_unread]
  unfold scal
  congr 1
  funext a
  fin_cases a
  · exact Fin.ext (by have := (x 0).isLt; show 0 + 1 * (x 0).val = 0; have h : (x 0).val < 1 := this; omega)
  · exact Fin.ext (by have h : (x 1).val < 1 := (x 1).isLt; show k.val + 1 * (x 1).val = k.val; omega)

/-- A window that the body stores is left at its contents, -/
theorem leave_live {cfg : Cfg sig Λ₀} {c : Dev nD} (dat : Dat τ (Elt F) Unit ℕ (UR sig nD τ) ℕ cfg c) (w : Fin cfg.W) (t : Fin cfg.N) (h : cfg.idle w (cfg.grid.coords t) = false) :
    owns (c : Thread nD τ) ((cfg.win w).stage (cfg.slots t w)) fullShare (dat.after w t) ⊢ (dat.leavesExact w t : sProp 𝕄) := by
  unfold Dat.leavesExact
  rewrite [h]
  exact .rfl

/-- and one that it does not store is left as it was found. -/
theorem leave_idle {cfg : Cfg sig Λ₀} {c : Dev nD} (dat : Dat τ (Elt F) Unit ℕ (UR sig nD τ) ℕ cfg c) (w : Fin cfg.W) (t : Fin cfg.N) (d) (h : cfg.idle w (cfg.grid.coords t) = true)
    (hf : (cfg.win w).flush t = true → dat.before w t d = dat.after w t) :
    owns (c : Thread nD τ) ((cfg.win w).stage (cfg.slots t w)) fullShare (dat.before w t d) ⊢ (dat.leavesExact w t : sProp 𝕄) := by
  unfold Dat.leavesExact
  rewrite [h]
  cases hfl : (cfg.win w).flush t with
  | false => iintro H; iexists d; iexact H
  | true => rw [hf hfl]

end Cert.KernelIdeal.Run

end
-- ==== Proof.RunIdeal.Amax.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit
public import Idealize.ShloMosaic.Lib.WritesUnit
public import Idealize.ShloMosaic.Lib.VecWindow
public import Idealize.ShloMosaic.Lib.Pointwise.Index
public import Idealize.ShloMosaic.Lib.Pipeline.ValueKit.Acc
public import Idealize.ShloMosaic.Lib.WholeRead
public import Idealize.ShloMosaic.Lib.Pointwise
public import Idealize.ShloMosaic.Lib.Pipeline.TableIdle
public import proofs.«01_k».proof.Proof.RunIdeal.Common

@[expose] public section

noncomputable section

namespace Cert.KernelIdeal.Run.K0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three branches of the body: the first point, every later point, the last point. -/
abbrev cond1 (i : grid0.Coords) : Prop := Scalar.cmpi .ne (Scalar.extui (Scalar.cmpi .eq (BitVec.ofNat 32 (i 0).val) 0#32)) 0#32 = 1#1
abbrev cond2 (i : grid0.Coords) : Prop := Scalar.cmpi .ne (Scalar.extui (Scalar.cmpi .sgt (BitVec.ofNat 32 (i 0).val) 0#32)) 0#32 = 1#1
abbrev cond3 (i : grid0.Coords) : Prop := k0_cond3 i = 1#1

/-- The first point: the scratch buffer takes the maxima of the first block. -/
theorem runA (c : Dev nD) (i : grid0.Coords) (arg1 : Memref sig .tc .vmem S512x10240 .bf16) (harg1 : arg1.IsWhole) (arg2 : Memref sig .tc .smem S1x1 .f32) (harg2 : arg2.IsWhole) (arg3 : Memref sig .tc .vmem S16x10240 .bf16) (harg3 : arg3.IsWhole)
    (hc1 : cond1 i) (hc2 : ¬cond2 i) (hc3 : ¬cond3 i)
    (x0 : Vec F S512x10240 .bf16) (d1 : Vec F S1x1 .f32) (S : Vec F S16x10240 .bf16) (K : PUnit → sProp 𝕄) :
    iprop(owns (c : Thread nD τ) arg1 fullShare x0 ∗ owns (c : Thread nD τ) arg2 fullShare d1 ∗ owns (c : Thread nD τ) arg3 fullShare S
        ∗ (iprop(owns (c : Thread nD τ) arg1 fullShare x0 ∗ owns (c : Thread nD τ) arg2 fullShare d1 ∗ owns (c : Thread nD τ) arg3 fullShare (k0_pay2 x0)) -∗ K ⟨⟩))
      ⊢ wp frame (wpE (defs₀ (F := F)) Variants.none c none) Set.univ (cc0_amax i arg1 harg1 arg2 harg2 arg3 harg3) K := by
  simp only [cc0_amax_eq_skeleton]; unfold cc0_amax_skel
  unfold owns
  iintro ⟨⟨%f0, %hf0, H0⟩, ⟨%f1, %hf1, H1⟩, ⟨%fs, %hfs, HS⟩, Hk⟩
  obtain rfl := harg1.eq_unread hf0; obtain rfl := harg3.eq_unread hfs
  sl_exec (disch := first | sl_exact hc1 | sl_exact hc2 | sl_exact hc3)
  sl_step
  iapply Hk
  isplitl [H0]
  · iexists _; isplitr; · ipureintro; exact harg1.read_unread _
    iexact H0
  isplitl [H1]
  · iexists _; isplitr; swap; · iexact H1
    ipureintro; exact hf1
  iexists _; isplitr; swap; · iexact HS
  ipureintro; rw [store_whole _ (by decide)]; rw [load_whole harg1 (by decide)]

/-- A later point: the scratch buffer takes the larger of itself and the maxima of the block. -/
theorem runB (c : Dev nD) (i : grid0.Coords) (arg1 : Memref sig .tc .vmem S512x10240 .bf16) (harg1 : arg1.IsWhole) (arg2 : Memref sig .tc .smem S1x1 .f32) (harg2 : arg2.IsWhole) (arg3 : Memref sig .tc .vmem S16x10240 .bf16) (harg3 : arg3.IsWhole)
    (hc1 : ¬cond1 i) (hc2 : cond2 i) (hc3 : ¬cond3 i)
    (x0 : Vec F S512x10240 .bf16) (d1 : Vec F S1x1 .f32) (S : Vec F S16x10240 .bf16) (K : PUnit → sProp 𝕄) :
    iprop(owns (c : Thread nD τ) arg1 fullShare x0 ∗ owns (c : Thread nD τ) arg2 fullShare d1 ∗ owns (c : Thread nD τ) arg3 fullShare S
        ∗ (iprop(owns (c : Thread nD τ) arg1 fullShare x0 ∗ owns (c : Thread nD τ) arg2 fullShare d1 ∗ owns (c : Thread nD τ) arg3 fullShare (k0_pay3 x0 S)) -∗ K ⟨⟩))
      ⊢ wp frame (wpE (defs₀ (F := F)) Variants.none c none) Set.univ (cc0_amax i arg1 harg1 arg2 harg2 arg3 harg3) K := by
  simp only [cc0_amax_eq_skeleton]; unfold cc0_amax_skel
  unfold owns
  iintro ⟨⟨%f0, %hf0, H0⟩, ⟨%f1, %hf1, H1⟩, ⟨%fs, %hfs, HS⟩, Hk⟩
  obtain rfl := harg1.eq_unread hf0; obtain rfl := harg3.eq_unread hfs
  sl_exec (disch := first | sl_exact hc1 | sl_exact hc2 | sl_exact hc3)
  sl_step
  iapply Hk
  isplitl [H0]
  · iexists _; isplitr; · ipureintro; exact harg1.read_unread _
    iexact H0
  isplitl [H1]
  · iexists _; isplitr; swap; · iexact H1
    ipureintro; exact hf1
  iexists _; isplitr; swap; · iexact HS
  ipureintro; rw [store_whole _ (by decide)]; rw [load_whole harg1 (by decide), load_whole harg3 (by decide)]

/-- The last point: as before, and the largest entry of the scratch buffer is written. -/
theorem runC (c : Dev nD) (i : grid0.Coords) (arg1 : Memref sig .tc .vmem S512x10240 .bf16) (harg1 : arg1.IsWhole) (arg2 : Memref sig .tc .smem S1x1 .f32) (harg2 : arg2.IsWhole) (arg3 : Memref sig .tc .vmem S16x10240 .bf16) (harg3 : arg3.IsWhole)
    (hc1 : ¬cond1 i) (hc2 : cond2 i) (hc3 : cond3 i)
    (x0 : Vec F S512x10240 .bf16) (d1 : Vec F S1x1 .f32) (S : Vec F S16x10240 .bf16) (K : PUnit → sProp 𝕄) :
    iprop(owns (c : Thread nD τ) arg1 fullShare x0 ∗ owns (c : Thread nD τ) arg2 fullShare d1 ∗ owns (c : Thread nD τ) arg3 fullShare S
        ∗ (iprop(owns (c : Thread nD τ) arg1 fullShare x0 ∗ owns (c : Thread nD τ) arg2 fullShare (fun _ => k0_pay4 (k0_pay3 x0 S)) ∗ owns (c : Thread nD τ) arg3 fullShare (k0_pay3 x0 S)) -∗ K ⟨⟩))
      ⊢ wp frame (wpE (defs₀ (F := F)) Variants.none c none) Set.univ (cc0_amax i arg1 harg1 arg2 harg2 arg3 harg3) K := by
  simp only [cc0_amax_eq_skeleton]; unfold cc0_amax_skel
  unfold owns
  iintro ⟨⟨%f0, %hf0, H0⟩, ⟨%f1, %hf1, H1⟩, ⟨%fs, %hfs, HS⟩, Hk⟩
  obtain rfl := harg1.eq_unread hf0; obtain rfl := harg3.eq_unread hfs
  sl_exec (disch := first | sl_exact hc1 | sl_exact hc2 | sl_exact hc3)
  sl_step
  iapply Hk
  isplitl [H0]
  · iexists _; isplitr; · ipureintro; exact harg1.read_unread _
    iexact H0
  isplitl [H1]
  · iexists _; isplitr; swap; · iexact H1
    ipureintro; rw [store_whole _ (by decide)]; unfold runC.sl.v14 runC.sl.HS_1; rw [View.readCov_full, load_whole harg1 (by decide), load_whole harg3 (by decide)]; rfl
  iexists _; isplitr; swap; · iexact HS
  ipureintro; unfold runC.sl.HS_1; rw [store_whole _ (by decide)]; rw [load_whole harg1 (by decide), load_whole harg3 (by decide)]

/-! ## What the scratch buffer holds before each point -/

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Point number `n`. -/
def pt (n : ℕ) : Fin cfg0.N := ⟨n % 24, Nat.mod_lt _ (by decide)⟩

/-- The scratch buffer after point `n`: the running maxima. -/
def acc (c : Dev nD) : ℕ → Vec F S16x10240 .bf16
  | 0 => k0_pay2 (iblk V c 0 (pt 0))
  | n + 1 => k0_pay3 (iblk V c 0 (pt (n + 1))) (acc c n)

/-- Before point `n` the scratch buffer holds what point `n - 1` left. -/
def Holds (c : Dev nD) (n : ℕ) (S : Vec F S16x10240 .bf16) : Prop := ∀ k, n = k + 1 → S = acc V c k

/-! ## The pipeline's proof data -/

/-- The scratch buffer. -/
abbrev scM : Memref sig .tc .vmem S16x10240 .bf16 := Memref.whole cc0_scratch0

/-- The region's invariant before point `n`: the scratch buffer as `Holds` says, every other scoped buffer, and the random-number register. -/
def Φ (c : Dev nD) (n : ℕ) : sProp 𝕄 :=
  iprop((∃ S, ⌜Holds V c n S⌝ ∗ owns (c : Thread nD τ) scM fullShare S)
    ∗ Pipeline.scopedRestBut (Ix := Unit) (Name := ℕ) (U := UR sig nD τ) (Lvl := ℕ) (Val := Elt F) spec0 c [cc0_scratch0] ∗ ∃ r, prngReg c r)

/-- The pipeline's proof data: the input's buffer keeps its block; the output's holds, once written, the largest entry of the last running maxima. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => fun _ => k0_pay4 (acc V c 23)
  Φ p := Φ V c p.val
  q _ := fullShare
  owed _ := 0

theorem A_eq (c : Dev nD) (w : Fin cfg0.W) : (dat V c).A w = V c (Pipeline.arrRef spec0 w) := by dsimp only [dat]
theorem after_0 (c : Dev nD) (t : Fin cfg0.N) : (dat V c).after 0 t = iblk V c 0 t := by dsimp only [dat]
theorem after_1 (c : Dev nD) (t : Fin cfg0.N) : (dat V c).after 1 t = fun _ => k0_pay4 (acc V c 23) := by dsimp only [dat]

/-- The input's current buffer holds its block at every point. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]) t d).trans
    (by unfold Dat.fetched Dat.blockOf iblk; rw [A_eq]; try rfl)

/-! ## Which points take which branch -/

theorem cond1_iff : ∀ t : Fin cfg0.N, cond1 (grid0.coords t) ↔ t.val = 0 := (by decide +kernel : ∀ t : Fin grid0.N, _)
theorem cond2_iff : ∀ t : Fin cfg0.N, cond2 (grid0.coords t) ↔ 0 < t.val := (by decide +kernel : ∀ t : Fin grid0.N, _)
theorem cond3_iff : ∀ t : Fin cfg0.N, cond3 (grid0.coords t) ↔ t.val = 23 := (by decide +kernel : ∀ t : Fin grid0.N, _)
theorem idle_1 : ∀ t : Fin cfg0.N, cfg0.idle 1 (cfg0.grid.coords t) = decide (t.val < 23) := (by decide +kernel : ∀ t : Fin grid0.N, idle0 1 (grid0.coords t) = decide (t.val < 23))
theorem flush_1 : ∀ t : Fin cfg0.N, (cfg0.win 1).flush t = decide (t.val = 23) := (by decide +kernel : ∀ t : Fin grid0.N, win0_1.flush t = decide (t.val = 23))

/-! ## The body obligation -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) ((cfg0.win 0).stage (cfg0.slots t 0)) fullShare ((dat V c).before 0 t d))
    ∗ (∃ d, owns (c : Thread nD τ) ((cfg0.win 1).stage (cfg0.slots t 1)) fullShare ((dat V c).before 1 t d)))

/-- and what it returns. -/
def bodyPost (c : Dev nD) (t : Fin cfg0.N) : sProp 𝕄 :=
  iprop((dat V c).Φ t.succ ∗ (dat V c).owesAt () t.succ ∗ (dat V c).leavesExact 0 t ∗ (dat V c).leavesExact 1 t)

theorem Φ_cast (c : Dev nD) (t : Fin cfg0.N) : (dat V c).Φ t.castSucc = Φ V c t.val := rfl
theorem Φ_succ (c : Dev nD) (t : Fin cfg0.N) : (dat V c).Φ t.succ = Φ V c (t.val + 1) := rfl
theorem pt_val (t : Fin cfg0.N) : pt t.val = t := Fin.ext (Nat.mod_eq_of_lt t.isLt)

/-- The first point. -/
theorem sound_A (c : Dev nD) (t : Fin cfg0.N) (h : t.val = 0) :
    bodyPre V c t ⊢ wp frame (wpE (defs₀ (F := F)) Variants.none c none) Set.univ (bodyAt0 t) (fun _ => bodyPost V c t) := by
  have ht : t.val < 24 := t.isLt
  unfold bodyPre bodyPost bodyAt0
  rewrite [Φ_cast, Φ_succ, show (dat V c).owesAt () t.succ = (dat V c).owesAt () t.castSucc from rfl]
  simp only [before_0]
  unfold Φ
  iintro ⟨⟨⟨%S, %hS, HS⟩, HR, HP⟩, Ho, ⟨%d0, H0⟩, ⟨%d1, H1⟩⟩
  iapply (runA c (grid0.coords t) _ _ _ _ _ _ ((cond1_iff t).2 (by omega)) (fun h => absurd ((cond2_iff t).1 h) (by omega)) (fun h => absurd ((cond3_iff t).1 h) (by omega)) (iblk V c 0 t) ((dat V c).before 1 t d1) S)
  isplitl [H0]; · iexact H0
  isplitl [H1]; · iexact H1
  isplitl [HS]; · iexact HS
  iintro ⟨H0, H1, HS⟩
  isplitl [HS HR HP]
  · isplitl [HS]
    · iexists _; isplitr; swap; · iexact HS
      ipureintro
      · intro k hk; obtain rfl : k = 0 := by omega
        have e : pt 0 = t := Fin.ext (by show 0 % 24 = t.val; omega)
        unfold acc; rw [e]
    isplitl [HR]; · iexact HR
    iexact HP
  isplitl [Ho]; · iexact Ho
  isplitl [H0]
  · iapply (leave_live (dat V c) 0 t rfl); rewrite [after_0]; iexact H0
  iapply (leave_idle (dat V c) 1 t d1 (by rw [idle_1]; exact decide_eq_true (by omega)) (fun hf => absurd (of_decide_eq_true ((flush_1 t).symm.trans hf)) (by omega))); iexact H1

/-- A later point, not the last. -/
theorem sound_B (c : Dev nD) (t : Fin cfg0.N) (h1 : 0 < t.val) (h2 : t.val < 23) :
    bodyPre V c t ⊢ wp frame (wpE (defs₀ (F := F)) Variants.none c none) Set.univ (bodyAt0 t) (fun _ => bodyPost V c t) := by
  have ht : t.val < 24 := t.isLt
  obtain ⟨n, hn⟩ : ∃ n, t.val = n + 1 := ⟨t.val - 1, by omega⟩
  have hpt : pt (n + 1) = t := by rw [← hn]; exact pt_val t
  unfold bodyPre bodyPost bodyAt0
  rewrite [Φ_cast, Φ_succ, show (dat V c).owesAt () t.succ = (dat V c).owesAt () t.castSucc from rfl]
  simp only [before_0]
  unfold Φ
  iintro ⟨⟨⟨%S, %hS, HS⟩, HR, HP⟩, Ho, ⟨%d0, H0⟩, ⟨%d1, H1⟩⟩
  iapply (runB c (grid0.coords t) _ _ _ _ _ _ (fun h => absurd ((cond1_iff t).1 h) (by omega)) ((cond2_iff t).2 (by omega)) (fun h => absurd ((cond3_iff t).1 h) (by omega)) (iblk V c 0 t) ((dat V c).before 1 t d1) S)
  isplitl [H0]; · iexact H0
  isplitl [H1]; · iexact H1
  isplitl [HS]; · iexact HS
  iintro ⟨H0, H1, HS⟩
  isplitl [HS HR HP]
  · isplitl [HS]
    · iexists _; isplitr; swap; · iexact HS
      ipureintro
      · intro k hk; obtain rfl : k = n + 1 := by omega
        rw [hS n hn, acc, hpt]
    isplitl [HR]; · iexact HR
    iexact HP
  isplitl [Ho]; · iexact Ho
  isplitl [H0]
  · iapply (leave_live (dat V c) 0 t rfl); rewrite [after_0]; iexact H0
  iapply (leave_idle (dat V c) 1 t d1 (by rw [idle_1]; exact decide_eq_true (by omega)) (fun hf => absurd (of_decide_eq_true ((flush_1 t).symm.trans hf)) (by omega))); iexact H1

/-- The last point. -/
theorem sound_C (c : Dev nD) (t : Fin cfg0.N) (h : t.val = 23) :
    bodyPre V c t ⊢ wp frame (wpE (defs₀ (F := F)) Variants.none c none) Set.univ (bodyAt0 t) (fun _ => bodyPost V c t) := by
  have ht : t.val < 24 := t.isLt
  obtain ⟨n, hn⟩ : ∃ n, t.val = n + 1 := ⟨t.val - 1, by omega⟩
  have hpt : pt (n + 1) = t := by rw [← hn]; exact pt_val t
  unfold bodyPre bodyPost bodyAt0
  rewrite [Φ_cast, Φ_succ, show (dat V c).owesAt () t.succ = (dat V c).owesAt () t.castSucc from rfl]
  simp only [before_0]
  unfold Φ
  iintro ⟨⟨⟨%S, %hS, HS⟩, HR, HP⟩, Ho, ⟨%d0, H0⟩, ⟨%d1, H1⟩⟩
  iapply (runC c (grid0.coords t) _ _ _ _ _ _ (fun h => absurd ((cond1_iff t).1 h) (by omega)) ((cond2_iff t).2 (by omega)) ((cond3_iff t).2 (by omega)) (iblk V c 0 t) ((dat V c).before 1 t d1) S)
  isplitl [H0]; · iexact H0
  isplitl [H1]; · iexact H1
  isplitl [HS]; · iexact HS
  iintro ⟨H0, H1, HS⟩
  isplitl [HS HR HP]
  · isplitl [HS]
    · iexists _; isplitr; swap; · iexact HS
      ipureintro
      · intro k hk; obtain rfl : k = n + 1 := by omega
        rw [hS n hn, acc, hpt]
    isplitl [HR]; · iexact HR
    iexact HP
  isplitl [Ho]; · iexact Ho
  isplitl [H0]
  · iapply (leave_live (dat V c) 0 t rfl); rewrite [after_0]; iexact H0
  iapply (leave_live (dat V c) 1 t (by rw [idle_1]; exact decide_eq_false (by omega)))
  have e : acc V c 23 = k0_pay3 (iblk V c 0 t) S := by
    obtain rfl : n = 22 := by omega
    rw [hS 22 hn, acc, hpt]
  rewrite [after_1, e]
  iexact H1

/-- The body table's row at point `t`'s slots is the body. -/
theorem defs₀_row (t : Fin cfg0.N) : defs₀ (F := F) .tc cfg0.body (cfg0.bodyArgs t (cfg0.slots t)) = bodyAt0 t := by
  unfold defs₀; rw [Defs.onTc_tc]

theorem sound_body (c : Dev nD) (t : Fin cfg0.N) :
    bodyPre V c t ⊢ wp frame (wpE (defs₀ (F := F)) Variants.none c none) Set.univ (bodyAt0 t) (fun _ => bodyPost V c t) := by
  have ht : t.val < 24 := t.isLt
  by_cases h1 : t.val = 0
  · exact sound_A V c t h1
  by_cases h2 : t.val < 23
  · exact sound_B V c t (by omega) h2
  exact sound_C V c t (by omega)

/-- The body obligation, at every point. -/
theorem body_obligation (c : Dev nD) : BodyObligation (dat V c) (defs₀ (F := F)) Variants.none () Set.univ := fun t => by
  rw [bigSep_W0, bigSep_W0, defs₀_row]
  exact triple_restated (sound_body V c t) rfl .rfl fun _ => .rfl

/-- The scoped buffers that are no staging buffer of this call: its scratch buffer, and the others. -/
theorem rest_eq (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

/-- The region is entered from its scoped buffers and the random-number register, -/
theorem hin (c : Dev nD) :
    iprop(Pipeline.scopedRest (Ix := Unit) (Name := ℕ) (U := UR sig nD τ) (Lvl := ℕ) (Val := Elt F) spec0 c ∗ ∃ r, prngReg c r) ⊢ Φ V c 0 := by
  rw [rest_eq]
  unfold Φ
  iintro ⟨⟨HS, HR⟩, HP⟩
  isplitl [HS]
  · icases HS with ⟨%f, HS⟩
    iexists f
    isplitr; · ipureintro; exact (fun k hk => absurd hk (by omega))
    rw [owns_whole]
    iexact HS
  isplitl [HR]; · iexact HR
  iexact HP

/-- and gives them back at the end. -/
theorem hout (c : Dev nD) (n : ℕ) :
    Φ V c n ⊢ iprop(Pipeline.scopedRest (Ix := Unit) (Name := ℕ) (U := UR sig nD τ) (Lvl := ℕ) (Val := Elt F) spec0 c ∗ ∃ r, prngReg c r) := by
  rw [rest_eq]
  unfold Φ
  iintro ⟨⟨%S, %hS, HS⟩, HR, HP⟩
  isplitl [HS HR]
  · isplitl [HS]
    · iexists S
      rw [← owns_whole (c : Thread nD τ) cc0_scratch0 fullShare S]
      iexact HS
    iexact HR
  iexact HP

end Cert.KernelIdeal.Run.K0

end
-- ==== Proof.RunIdeal.Dgrad.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit
public import Idealize.ShloMosaic.Lib.WritesUnit
public import Idealize.ShloMosaic.Lib.VecWindow
public import Idealize.ShloMosaic.Lib.Pointwise.Index
public import Idealize.ShloMosaic.Lib.Pipeline.ValueKit.Acc
public import Idealize.ShloMosaic.Lib.WholeRead
public import Idealize.ShloMosaic.Lib.Pointwise
public import Idealize.ShloMosaic.Lib.Pipeline.TableIdle
public import proofs.«01_k».proof.Proof.RunIdeal.Common

@[expose] public section

noncomputable section

namespace Cert.KernelIdeal.Run.K1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The columns of the scratch buffer that the body stores at a point, and the slot that it loads. -/
theorem off1_eq (i : grid1.Coords) : k1_off1 i = ![(i 0).val % 2, 0, 640 * (i 1).val] := by
  revert i; decide +kernel
theorem off2_eq (i : grid1.Coords) : k1_off2 i = ![((i 0).val + 1) % 2, 0, 0] := by
  revert i; decide +kernel
instance closedOff1 (i : grid1.Coords) : ClosedOff (k1_off1 i) := ⟨_, off1_eq i⟩
instance closedOff2 (i : grid1.Coords) : ClosedOff (k1_off2 i) := ⟨_, off2_eq i⟩

/-- One slot of the two-slot scratch buffer, as the body loads it. -/
def slotOf (S : Vec F S2x1024x10240 .fp8e5m2) (s : Fin 2) : Vec F S1x1024x10240 .fp8e5m2 := fun x => S (ix3 s (x 1) (x 2))

/-- `S'` is the scratch buffer `S` with the 640 columns from `640 * i 1` of slot `i 0 mod 2` replaced by `w`. -/
def Put (i : grid1.Coords) (S : Vec F S2x1024x10240 .fp8e5m2) (w : Vec F S1x1024x640 .fp8e5m2) (S' : Vec F S2x1024x10240 .fp8e5m2) : Prop :=
  ∀ y : S2x1024x10240.Idx,
    ((y 0).val = (i 0).val % 2 → ∀ q : Fin 640, (y 2).val = 640 * (i 1).val + q.val → S' y = w (ix3 0 (y 1) q))
    ∧ ((y 0).val ≠ (i 0).val % 2 ∨ (y 2).val < 640 * (i 1).val ∨ 640 * (i 1).val + 640 ≤ (y 2).val → S' y = S y)

/-- Reading back the scratch buffer after a store of one slot's 640 columns. -/
theorem put_read {arg : Memref sig .tc .vmem S2x1024x10240 .fp8e5m2} (harg : arg.IsWhole) (i : grid1.Coords)
    (inb : ∀ a, k1_off1 i a + S1x1024x640.size a ≤ S2x1024x10240.size a)
    (S : Vec F S2x1024x10240 .fp8e5m2) (w : Vec F S1x1024x640 .fp8e5m2) :
    Put i S w (View.read (Elt F) arg.view (arg.view.writes (Elt F) (harg.unread S) [⟨Rect.unit (s := S2x1024x10240) (k1_off1 i) S1x1024x640.size inb, w⟩])) := by
  intro y
  refine ⟨fun h0 q h2 => ?_, fun h => ?_⟩
  · refine View.read_writes_cons_unit_of_mem arg.view _ inb w [] y (ix3 0 (y 1) q) (off1_eq i) fun a => ?_
    fin_cases a
    · exact h0
    · exact (Nat.zero_add _).symm
    · exact h2
  · refine Eq.trans ?_ (congrFun (harg.read_unread S) y)
    rcases h with h | h
    · refine View.read_writes_cons_unit_of_not_mem arg.view _ inb w [] y (off1_eq i) 0 ?_
      show (y 0).val < (i 0).val % 2 ∨ (i 0).val % 2 + 1 ≤ (y 0).val
      omega
    · exact View.read_writes_cons_unit_of_not_mem arg.view _ inb w [] y (off1_eq i) 2 h

/-- A load of one slot, when nothing was stored before it. -/
theorem load_slot {arg : Memref sig .tc .vmem S2x1024x10240 .fp8e5m2} (harg : arg.IsWhole) (i : grid1.Coords)
    (inb : ∀ a, k1_off2 i a + S1x1024x10240.size a ≤ S2x1024x10240.size a) (S : Vec F S2x1024x10240 .fp8e5m2) :
    View.readAt (Elt F) arg.view (Rect.unit (s := S2x1024x10240) (k1_off2 i) S1x1024x10240.size inb).toLoadRect (harg.unread S)
      = slotOf S ⟨((i 0).val + 1) % 2, Nat.mod_lt _ (by decide)⟩ := by
  funext x
  rw [harg.readAt_unread]
  unfold slotOf
  congr 1
  have e : ∀ a, ((Rect.unit (s := S2x1024x10240) (k1_off2 i) S1x1024x10240.size inb).toLoadRect.idx x a).val = (![((i 0).val + 1) % 2, 0, 0] : Fin 3 → ℕ) a + 1 * (x a).val :=
    fun a => congrArg (· + 1 * (x a).val) (congrFun (off2_eq i) a)
  funext a
  refine Fin.ext ((e a).trans ?_)
  fin_cases a
  · have h : (x 0).val < 1 := (x 0).isLt
    show ((i 0).val + 1) % 2 + 1 * (x 0).val = ((i 0).val + 1) % 2
    omega
  · show 0 + 1 * (x 1).val = (x 1).val
    omega
  · show 0 + 1 * (x 2).val = (x 2).val
    omega

/-- A load of one slot after a store into the other slot: the store is not seen. -/
theorem load_slot_after {arg : Memref sig .tc .vmem S2x1024x10240 .fp8e5m2} (harg : arg.IsWhole) (i : grid1.Coords)
    (inb1 : ∀ a, k1_off1 i a + S1x1024x640.size a ≤ S2x1024x10240.size a)
    (inb : ∀ a, k1_off2 i a + S1x1024x10240.size a ≤ S2x1024x10240.size a) (S : Vec F S2x1024x10240 .fp8e5m2) (w : Vec F S1x1024x640 .fp8e5m2) :
    View.readAt (Elt F) arg.view (Rect.unit (s := S2x1024x10240) (k1_off2 i) S1x1024x10240.size inb).toLoadRect
        (arg.view.writes (Elt F) (harg.unread S) [⟨Rect.unit (s := S2x1024x10240) (k1_off1 i) S1x1024x640.size inb1, w⟩])
      = slotOf S ⟨((i 0).val + 1) % 2, Nat.mod_lt _ (by decide)⟩ := by
  rw [← load_slot harg i inb S]
  funext x
  rw [harg.readAt_unread]
  have e : ((Rect.unit (s := S2x1024x10240) (k1_off2 i) S1x1024x10240.size inb).toLoadRect.idx x 0).val = (![((i 0).val + 1) % 2, 0, 0] : Fin 3 → ℕ) 0 + 1 * (x 0).val :=
    congrArg (· + 1 * (x 0).val) (congrFun (off2_eq i) 0)
  have h : (x 0).val < 1 := (x 0).isLt
  have e' : ((Rect.unit (s := S2x1024x10240) (k1_off2 i) S1x1024x10240.size inb).toLoadRect.idx x 0).val = ((i 0).val + 1) % 2 + 1 * (x 0).val := e
  exact (put_read harg i inb1 S w _).2 (.inl (by omega))

/-- The body where it only casts: the codes, their transpose, and the block of codes in the scratch buffer. -/
theorem runA (c : Dev nD) (i : grid1.Coords) (arg2 : Memref sig .tc .smem S1x3 .f32) (harg2 : arg2.IsWhole) (arg3 : Memref sig .tc .vmem S1024x640 .bf16) (harg3 : arg3.IsWhole) (arg4 : Memref sig .tc .vmem S10240x512 .fp8e4m3) (harg4 : arg4.IsWhole) (arg5 : Memref sig .tc .vmem S1024x512 .bf16) (harg5 : arg5.IsWhole) (arg6 : Memref sig .tc .vmem S1024x640 .fp8e5m2) (harg6 : arg6.IsWhole) (arg7 : Memref sig .tc .vmem S640x1024 .fp8e5m2) (harg7 : arg7.IsWhole) (arg8 : Memref sig .tc .vmem S2x1024x10240 .fp8e5m2) (harg8 : arg8.IsWhole)
    (hc1 : k1_cond1 i = 1#1) (hc2 : ¬k1_cond2 i = 1#1)
    (x0 : Vec F S1x3 .f32) (x1 : Vec F S1024x640 .bf16) (x2 : Vec F S10240x512 .fp8e4m3) (d3 : Vec F S1024x512 .bf16) (d4 : Vec F S1024x640 .fp8e5m2) (d5 : Vec F S640x1024 .fp8e5m2) (S : Vec F S2x1024x10240 .fp8e5m2) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare d3 ∗ owns (c : Thread nD τ) arg6 fullShare d4 ∗ owns (c : Thread nD τ) arg7 fullShare d5 ∗ owns (c : Thread nD τ) arg8 fullShare S
        ∗ (iprop(owns (c : Thread nD τ) arg2 fullShare x0 ∗ owns (c : Thread nD τ) arg3 fullShare x1 ∗ owns (c : Thread nD τ) arg4 fullShare x2
            ∗ owns (c : Thread nD τ) arg5 fullShare (d3)
            ∗ owns (c : Thread nD τ) arg6 fullShare (k1_pay1 x1 (scal x0 0))
            ∗ owns (c : Thread nD τ) arg7 fullShare (k1_pay2 x1 (scal x0 0))
            ∗ (∃ S', ⌜Put i S (k1_pay3 x1 (scal x0 0)) S'⌝ ∗ owns (c : Thread nD τ) arg8 fullShare S')) -∗ K ⟨⟩))
      ⊢ wp frame (wpE (defs₀ (F := F)) Variants.none c none) Set.univ (cc1_dgrad i arg2 harg2 arg3 harg3 arg4 harg4 arg5 harg5 arg6 harg6 arg7 harg7 arg8 harg8) K := by
  simp only [cc1_dgrad_eq_skeleton]; unfold cc1_dgrad_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2; obtain rfl := harg8.eq_unread hfs
  sl_exec (disch := first | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro; exact hf3
  isplitl [H4]
  · iexists _; isplitr; swap; · iexact H4
    ipureintro; rw [store_whole _ (by decide)]; unfold runA.sl.r; rw [load_whole harg3 (by decide), load_scal (n := 0) harg2 x0 0 rfl]
  isplitl [H5]
  · iexists _; isplitr; swap; · iexact H5
    ipureintro; rw [store_whole _ (by decide)]; unfold runA.sl.r; rw [load_whole harg3 (by decide), load_scal (n := 0) harg2 x0 0 rfl]
  iexists _
  isplitr; swap
  · iexists _; isplitr; swap; · iexact HS
    ipureintro; rfl
  ipureintro
  unfold runA.sl.r; rw [load_whole harg3 (by decide), load_scal (n := 0) harg2 x0 0 rfl]
  exact put_read harg8 i _ S _

/-- The body where it casts one block and multiplies the one before it. -/
theorem runB (c : Dev nD) (i : grid1.Coords) (arg2 : Memref sig .tc .smem S1x3 .f32) (harg2 : arg2.IsWhole) (arg3 : Memref sig .tc .vmem S1024x640 .bf16) (harg3 : arg3.IsWhole) (arg4 : Memref sig .tc .vmem S10240x512 .fp8e4m3) (harg4 : arg4.IsWhole) (arg5 : Memref sig .tc .vmem S1024x512 .bf16) (harg5 : arg5.IsWhole) (arg6 : Memref sig .tc .vmem S1024x640 .fp8e5m2) (harg6 : arg6.IsWhole) (arg7 : Memref sig .tc .vmem S640x1024 .fp8e5m2) (harg7 : arg7.IsWhole) (arg8 : Memref sig .tc .vmem S2x1024x10240 .fp8e5m2) (harg8 : arg8.IsWhole)
    (hc1 : k1_cond1 i = 1#1) (hc2 : k1_cond2 i = 1#1)
    (x0 : Vec F S1x3 .f32) (x1 : Vec F S1024x640 .bf16) (x2 : Vec F S10240x512 .fp8e4m3) (d3 : Vec F S1024x512 .bf16) (d4 : Vec F S1024x640 .fp8e5m2) (d5 : Vec F S640x1024 .fp8e5m2) (S : Vec F S2x1024x10240 .fp8e5m2) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare d3 ∗ owns (c : Thread nD τ) arg6 fullShare d4 ∗ owns (c : Thread nD τ) arg7 fullShare d5 ∗ owns (c : Thread nD τ) arg8 fullShare S
        ∗ (iprop(owns (c : Thread nD τ) arg2 fullShare x0 ∗ owns (c : Thread nD τ) arg3 fullShare x1 ∗ owns (c : Thread nD τ) arg4 fullShare x2
            ∗ owns (c : Thread nD τ) arg5 fullShare (k1_pay4 (slotOf S ⟨((i 0).val + 1) % 2, Nat.mod_lt _ (by decide)⟩) x2 (scal x0 1))
            ∗ owns (c : Thread nD τ) arg6 fullShare (k1_pay1 x1 (scal x0 0))
            ∗ owns (c : Thread nD τ) arg7 fullShare (k1_pay2 x1 (scal x0 0))
            ∗ (∃ S', ⌜Put i S (k1_pay3 x1 (scal x0 0)) S'⌝ ∗ owns (c : Thread nD τ) arg8 fullShare S')) -∗ K ⟨⟩))
      ⊢ wp frame (wpE (defs₀ (F := F)) Variants.none c none) Set.univ (cc1_dgrad i arg2 harg2 arg3 harg3 arg4 harg4 arg5 harg5 arg6 harg6 arg7 harg7 arg8 harg8) K := by
  simp only [cc1_dgrad_eq_skeleton]; unfold cc1_dgrad_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2; obtain rfl := harg8.eq_unread hfs
  sl_exec (disch := first | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro; rw [store_whole _ (by decide)]; unfold runB.sl.HS_1 runB.sl.r_1; rw [load_slot_after, load_whole harg4 (by decide), load_scal (n := 1) harg2 x0 1 rfl]
  isplitl [H4]
  · iexists _; isplitr; swap; · iexact H4
    ipureintro; rw [store_whole _ (by decide)]; unfold runB.sl.r; rw [load_whole harg3 (by decide), load_scal (n := 0) harg2 x0 0 rfl]
  isplitl [H5]
  · iexists _; isplitr; swap; · iexact H5
    ipureintro; rw [store_whole _ (by decide)]; unfold runB.sl.r; rw [load_whole harg3 (by decide), load_scal (n := 0) harg2 x0 0 rfl]
  iexists _
  isplitr; swap
  · iexists _; isplitr; swap; · iexact HS
    ipureintro; rfl
  ipureintro
  unfold runB.sl.HS_1 runB.sl.r; rw [load_whole harg3 (by decide), load_scal (n := 0) harg2 x0 0 rfl]
  exact put_read harg8 i _ S _

/-- The body where it only multiplies. -/
theorem runC (c : Dev nD) (i : grid1.Coords) (arg2 : Memref sig .tc .smem S1x3 .f32) (harg2 : arg2.IsWhole) (arg3 : Memref sig .tc .vmem S1024x640 .bf16) (harg3 : arg3.IsWhole) (arg4 : Memref sig .tc .vmem S10240x512 .fp8e4m3) (harg4 : arg4.IsWhole) (arg5 : Memref sig .tc .vmem S1024x512 .bf16) (harg5 : arg5.IsWhole) (arg6 : Memref sig .tc .vmem S1024x640 .fp8e5m2) (harg6 : arg6.IsWhole) (arg7 : Memref sig .tc .vmem S640x1024 .fp8e5m2) (harg7 : arg7.IsWhole) (arg8 : Memref sig .tc .vmem S2x1024x10240 .fp8e5m2) (harg8 : arg8.IsWhole)
    (hc1 : ¬k1_cond1 i = 1#1) (hc2 : k1_cond2 i = 1#1)
    (x0 : Vec F S1x3 .f32) (x1 : Vec F S1024x640 .bf16) (x2 : Vec F S10240x512 .fp8e4m3) (d3 : Vec F S1024x512 .bf16) (d4 : Vec F S1024x640 .fp8e5m2) (d5 : Vec F S640x1024 .fp8e5m2) (S : Vec F S2x1024x10240 .fp8e5m2) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare d3 ∗ owns (c : Thread nD τ) arg6 fullShare d4 ∗ owns (c : Thread nD τ) arg7 fullShare d5 ∗ owns (c : Thread nD τ) arg8 fullShare S
        ∗ (iprop(owns (c : Thread nD τ) arg2 fullShare x0 ∗ owns (c : Thread nD τ) arg3 fullShare x1 ∗ owns (c : Thread nD τ) arg4 fullShare x2
            ∗ owns (c : Thread nD τ) arg5 fullShare (k1_pay4 (slotOf S ⟨((i 0).val + 1) % 2, Nat.mod_lt _ (by decide)⟩) x2 (scal x0 1))
            ∗ owns (c : Thread nD τ) arg6 fullShare (d4)
            ∗ owns (c : Thread nD τ) arg7 fullShare (d5)
            ∗ owns (c : Thread nD τ) arg8 fullShare S) -∗ K ⟨⟩))
      ⊢ wp frame (wpE (defs₀ (F := F)) Variants.none c none) Set.univ (cc1_dgrad i arg2 harg2 arg3 harg3 arg4 harg4 arg5 harg5 arg6 harg6 arg7 harg7 arg8 harg8) K := by
  simp only [cc1_dgrad_eq_skeleton]; unfold cc1_dgrad_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2; obtain rfl := harg8.eq_unread hfs
  sl_exec (disch := first | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro; rw [store_whole _ (by decide)]; unfold runC.sl.r; rw [load_slot, load_whole harg4 (by decide), load_scal (n := 1) harg2 x0 1 rfl]
  isplitl [H4]
  · iexists _; isplitr; swap; · iexact H4
    ipureintro; exact hf4
  isplitl [H5]
  · iexists _; isplitr; swap; · iexact H5
    ipureintro; exact hf5
  iexists _; isplitr; · ipureintro; exact harg8.read_unread _
  iexact HS

/-! ## What the scratch buffer holds before each point -/

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row of three scalars as the body sees it at point `t`. -/
abbrev scs (c : Dev nD) (t : Fin cfg1.N) : Vec F S1x3 .f32 := iblk V c 0 t

/-- The codes that the body makes from its block of `dy` at point `t`. -/
def cd (c : Dev nD) (t : Fin cfg1.N) : Vec F S1024x640 .fp8e5m2 := k1_pay1 (iblk V c 1 t) (scal (scs V c t) 0)

/-- Point number `n`. -/
def pt (n : ℕ) : Fin cfg1.N := ⟨n % 208, Nat.mod_lt _ (by decide)⟩

/-- The code in row `r` and column `k` of row block `m`: column `k` is made at point `16 * m + k / 640`. -/
def rowCode (c : Dev nD) (m : ℕ) (r : Fin 1024) (k : Fin 10240) : Elt F .fp8e5m2 :=
  cd V c (pt (16 * m + k.val / 640)) (ix2 r ⟨k.val % 640, Nat.mod_lt _ (by decide)⟩)

/-- All codes of row block `m`, as a slot of the scratch buffer holds them. -/
def codesOf (c : Dev nD) (m : ℕ) : Vec F S1x1024x10240 .fp8e5m2 := fun x => rowCode V c m (x 1) (x 2)

/-- Before point `n` of row block `m = n / 16`: slot `m mod 2` holds the codes of block `m` in the columns made so far,
    the other slot holds all codes of block `m - 1`. -/
def Holds (c : Dev nD) (n : ℕ) (S : Vec F S2x1024x10240 .fp8e5m2) : Prop :=
  ∀ (s : Fin 2) (r : Fin 1024) (k : Fin 10240),
    (s.val = n / 16 % 2 → k.val < 640 * (n % 16) → n / 16 < 12 → S (ix3 s r k) = rowCode V c (n / 16) r k)
    ∧ (s.val = (n / 16 + 1) % 2 → 0 < n / 16 → n / 16 ≤ 12 → S (ix3 s r k) = rowCode V c (n / 16 - 1) r k)

theorem coord0 (t : Fin cfg1.N) : (grid1.coords t 0).val = t.val / 16 := by
  have ht : t.val < 208 := t.isLt
  have e : (grid1.coords t 0).val = t.val / 16 % 13 := Pipeline.Grid.coords_val t 0 (by decide) rfl
  omega
theorem coord1 (t : Fin cfg1.N) : (grid1.coords t 1).val = t.val % 16 := by
  have e : (grid1.coords t 1).val = t.val / 1 % 16 := Pipeline.Grid.coords_val t 1 (by decide) rfl
  omega

theorem Holds.zero (c : Dev nD) (S : Vec F S2x1024x10240 .fp8e5m2) : Holds V c 0 S := fun s r k =>
  ⟨fun _ h => absurd h (by omega), fun _ h => absurd h (by omega)⟩

/-- The stored block of codes, entry by entry. -/
theorem pay3_apply (x1 : Vec F S1024x640 .bf16) (a : Elt F .f32) (r : Fin 1024) (q : Fin 640) :
    k1_pay3 x1 a (ix3 0 r q) = k1_pay1 x1 a (ix2 r q) := by
  unfold k1_pay3
  simp only [pointwise]

/-- A point that casts adds its 640 columns. -/
theorem Holds.put (c : Dev nD) (t : Fin cfg1.N) (h : t.val < 192) {S S' : Vec F S2x1024x10240 .fp8e5m2} (hS : Holds V c t.val S)
    (hP : Put (grid1.coords t) S (k1_pay3 (iblk V c 1 t) (scal (scs V c t) 0)) S') : Holds V c (t.val + 1) S' := by
  intro s r k
  have hk := k.isLt
  have p := hP (ix3 s r k)
  rw [coord0, coord1] at p
  have p1 : s.val = t.val / 16 % 2 → ∀ q : Fin 640, k.val = 640 * (t.val % 16) + q.val → S' (ix3 s r k) = k1_pay3 (iblk V c 1 t) (scal (scs V c t) 0) (ix3 0 r q) := p.1
  have p2 : s.val ≠ t.val / 16 % 2 ∨ k.val < 640 * (t.val % 16) ∨ 640 * (t.val % 16) + 640 ≤ k.val → S' (ix3 s r k) = S (ix3 s r k) := p.2
  -- a column of the current block made by now
  have cur : s.val = t.val / 16 % 2 → k.val < 640 * (t.val % 16) + 640 → S' (ix3 s r k) = rowCode V c (t.val / 16) r k := by
    intro hs hlt
    by_cases hge : 640 * (t.val % 16) ≤ k.val
    · rw [p1 hs ⟨k.val - 640 * (t.val % 16), by omega⟩ (by show k.val = 640 * (t.val % 16) + (k.val - 640 * (t.val % 16)); omega), pay3_apply]
      unfold rowCode cd
      have e : pt (16 * (t.val / 16) + k.val / 640) = t := Fin.ext (by show (16 * (t.val / 16) + k.val / 640) % 208 = t.val; omega)
      rw [e]
      congr 1
      exact congrArg (ix2 r) (Fin.ext (by show k.val - 640 * (t.val % 16) = k.val % 640; omega))
    · rw [p2 (.inr (.inl (by omega)))]
      exact (hS s r k).1 hs (by omega) (by omega)
  refine ⟨fun hs hlt hm => ?_, fun hs hp hm => ?_⟩
  · have e : (t.val + 1) / 16 = t.val / 16 := by omega
    rw [e] at hs hm ⊢
    exact cur hs (by omega)
  · by_cases hj : t.val % 16 = 15
    · have e : (t.val + 1) / 16 - 1 = t.val / 16 := by omega
      rw [e]
      exact cur (by omega) (by omega)
    · have e : (t.val + 1) / 16 = t.val / 16 := by omega
      rw [e] at hs hp hm ⊢
      rw [p2 (.inl (by omega))]
      exact (hS s r k).2 hs hp hm

/-- A point of the last, thirteenth round changes nothing. -/
theorem Holds.keep (c : Dev nD) (t : Fin cfg1.N) (h : 192 ≤ t.val) {S : Vec F S2x1024x10240 .fp8e5m2} (hS : Holds V c t.val S) :
    Holds V c (t.val + 1) S := by
  have ht : t.val < 208 := t.isLt
  intro s r k
  refine ⟨fun hs hlt hm => absurd hm (by omega), fun hs hp hm => ?_⟩
  have e : (t.val + 1) / 16 = t.val / 16 := by omega
  rw [e] at hs hp hm ⊢
  exact (hS s r k).2 hs hp hm

/-- Where the body multiplies, the slot that it reads holds all codes of the previous row block. -/
theorem Holds.slot (c : Dev nD) (t : Fin cfg1.N) (h : 16 ≤ t.val) {S : Vec F S2x1024x10240 .fp8e5m2} (hS : Holds V c t.val S) :
    slotOf S ⟨((grid1.coords t 0).val + 1) % 2, Nat.mod_lt _ (by decide)⟩ = codesOf V c (t.val / 16 - 1) := by
  have ht : t.val < 208 := t.isLt
  funext x
  unfold slotOf codesOf
  exact (hS _ _ _).2 (by show ((grid1.coords t 0).val + 1) % 2 = _; rw [coord0]) (by omega) (by omega)

/-! ## The pipeline's proof data -/

/-- The last point at or before `t` that casts: the points of the thirteenth round keep the last block of codes. -/
def cap (t : Fin cfg1.N) : Fin cfg1.N := ⟨min t.val 191, lt_of_le_of_lt (Nat.min_le_left _ _) t.isLt⟩

theorem cap_of_lt (t : Fin cfg1.N) (h : t.val < 192) : cap t = t := Fin.ext (by show min t.val 191 = t.val; omega)

/-- The scratch buffer. -/
abbrev scM : Memref sig .tc .vmem S2x1024x10240 .fp8e5m2 := Memref.whole cc1_scratch0

/-- The region's invariant before point `n`: the scratch buffer as `Holds` says, every other scoped buffer, and the random-number register. -/
def Φ (c : Dev nD) (n : ℕ) : sProp 𝕄 :=
  iprop((∃ S, ⌜Holds V c n S⌝ ∗ owns (c : Thread nD τ) scM fullShare S)
    ∗ Pipeline.scopedRestBut (Ix := Unit) (Name := ℕ) (U := UR sig nD τ) (Lvl := ℕ) (Val := Elt F) spec1 c [cc1_scratch0] ∗ ∃ r, prngReg c r)

/-- The pipeline's proof data: the inputs' buffers keep their blocks; the first output's holds the product of the previous row block's codes with
    the block of weights; the other two outputs' hold the codes and their transpose. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => k1_pay4 (codesOf V c (t.val / 16 - 1)) (iblk V c 2 t) (scal (scs V c t) 1)
    | ⟨4, _⟩ => cd V c (cap t)
    | ⟨5, _⟩ => k1_pay2 (iblk V c 1 (cap t)) (scal (scs V c (cap t)) 0)
  Φ p := Φ V c p.val
  q _ := fullShare
  owed _ := 0

theorem A_eq (c : Dev nD) (w : Fin cfg1.W) : (dat V c).A w = V c (Pipeline.arrRef spec1 w) := by dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = k1_pay4 (codesOf V c (t.val / 16 - 1)) (iblk V c 2 t) (scal (scs V c t) 1) := by dsimp only [dat]
theorem after_4 (c : Dev nD) (t : Fin cfg1.N) : (dat V c).after 4 t = cd V c (cap t) := by dsimp only [dat]
theorem after_5 (c : Dev nD) (t : Fin cfg1.N) : (dat V c).after 5 t = k1_pay2 (iblk V c 1 (cap t)) (scal (scs V c (cap t)) 0) := by dsimp only [dat]

/-- Each input's current buffer holds its block at every point. -/
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl) (fun t => by rw [after_2]; unfold Dat.blockOf iblk; rw [A_eq]) t d).trans
    (by unfold Dat.fetched Dat.blockOf iblk; rw [A_eq]; try rfl)

/-! ## Which points store which output -/

theorem cond1_iff : ∀ t : Fin cfg1.N, k1_cond1 (grid1.coords t) = 1#1 ↔ t.val < 192 := (by decide +kernel : ∀ t : Fin grid1.N, _)
theorem cond2_iff : ∀ t : Fin cfg1.N, k1_cond2 (grid1.coords t) = 1#1 ↔ 16 ≤ t.val := (by decide +kernel : ∀ t : Fin grid1.N, _)
theorem idle_3 : ∀ t : Fin cfg1.N, cfg1.idle 3 (cfg1.grid.coords t) = decide (t.val < 16) := (by decide +kernel : ∀ t : Fin grid1.N, idle1 3 (grid1.coords t) = decide (t.val < 16))
theorem idle_4 : ∀ t : Fin cfg1.N, cfg1.idle 4 (cfg1.grid.coords t) = decide (192 ≤ t.val) := (by decide +kernel : ∀ t : Fin grid1.N, idle1 4 (grid1.coords t) = decide (192 ≤ t.val))
theorem idle_5 : ∀ t : Fin cfg1.N, cfg1.idle 5 (cfg1.grid.coords t) = decide (192 ≤ t.val) := (by decide +kernel : ∀ t : Fin grid1.N, idle1 5 (grid1.coords t) = decide (192 ≤ t.val))
theorem flush_3 : ∀ t : Fin cfg1.N, (cfg1.win 3).flush t = decide (16 ≤ t.val) := (by decide +kernel : ∀ t : Fin grid1.N, win1_3.flush t = decide (16 ≤ t.val))
theorem flush_4 : ∀ t : Fin cfg1.N, (cfg1.win 4).flush t = decide (t.val < 191 ∨ t.val = 207) := (by decide +kernel : ∀ t : Fin grid1.N, win1_4.flush t = decide (t.val < 191 ∨ t.val = 207))
theorem flush_5 : ∀ t : Fin cfg1.N, (cfg1.win 5).flush t = decide (t.val < 191 ∨ t.val = 207) := (by decide +kernel : ∀ t : Fin grid1.N, win1_5.flush t = decide (t.val < 191 ∨ t.val = 207))

/-- Through the thirteenth round the buffer of codes keeps the last block. -/
theorem before_4 (c : Dev nD) (t : Fin cfg1.N) (h : 192 ≤ t.val) (d) : (dat V c).before 4 t d = (dat V c).after 4 t := by
  have ht : t.val < 208 := t.isLt
  rw [(dat V c).before_idle_run 4 (fun _ => rfl) d (t.val - 192) t (by omega) fun j h1 h2 => by
    rw [idle_4, flush_4]; exact ⟨decide_eq_true (by omega), decide_eq_false (by omega)⟩]
  rw [(dat V c).before_of_pos 4 _ (by show t.val - (t.val - 192) ≠ 0; omega) rfl d, flush_4, if_neg (by
    simp only [decide_eq_true_eq]; omega)]
  unfold Dat.left
  rewrite [idle_4]
  rewrite [show decide (192 ≤ t.val - (t.val - 192) - 1) = false from decide_eq_false (by omega)]
  refine Eq.trans (b := (dat V c).after 4 ⟨t.val - (t.val - 192) - 1, by omega⟩) rfl ?_
  rw [after_4, after_4]
  congr 1
  exact Fin.ext (by show min (t.val - (t.val - 192) - 1) 191 = min t.val 191; omega)
theorem before_5 (c : Dev nD) (t : Fin cfg1.N) (h : 192 ≤ t.val) (d) : (dat V c).before 5 t d = (dat V c).after 5 t := by
  have ht : t.val < 208 := t.isLt
  rw [(dat V c).before_idle_run 5 (fun _ => rfl) d (t.val - 192) t (by omega) fun j h1 h2 => by
    rw [idle_5, flush_5]; exact ⟨decide_eq_true (by omega), decide_eq_false (by omega)⟩]
  rw [(dat V c).before_of_pos 5 _ (by show t.val - (t.val - 192) ≠ 0; omega) rfl d, flush_5, if_neg (by
    simp only [decide_eq_true_eq]; omega)]
  unfold Dat.left
  rewrite [idle_5]
  rewrite [show decide (192 ≤ t.val - (t.val - 192) - 1) = false from decide_eq_false (by omega)]
  refine Eq.trans (b := (dat V c).after 5 ⟨t.val - (t.val - 192) - 1, by omega⟩) rfl ?_
  have e : cap ⟨t.val - (t.val - 192) - 1, by omega⟩ = cap t := Fin.ext (by show min (t.val - (t.val - 192) - 1) 191 = min t.val 191; omega)
  rw [after_5, after_5, e]

/-! ## The body obligation -/

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) ((cfg1.win 0).stage (cfg1.slots t 0)) fullShare ((dat V c).before 0 t d))
    ∗ (∃ d, owns (c : Thread nD τ) ((cfg1.win 1).stage (cfg1.slots t 1)) fullShare ((dat V c).before 1 t d))
    ∗ (∃ d, owns (c : Thread nD τ) ((cfg1.win 2).stage (cfg1.slots t 2)) fullShare ((dat V c).before 2 t d))
    ∗ (∃ d, owns (c : Thread nD τ) ((cfg1.win 3).stage (cfg1.slots t 3)) fullShare ((dat V c).before 3 t d))
    ∗ (∃ d, owns (c : Thread nD τ) ((cfg1.win 4).stage (cfg1.slots t 4)) fullShare ((dat V c).before 4 t d))
    ∗ (∃ d, owns (c : Thread nD τ) ((cfg1.win 5).stage (cfg1.slots t 5)) fullShare ((dat V c).before 5 t d)))

/-- and what it returns. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t ∗ (dat V c).leavesExact 5 t)

theorem Φ_cast (c : Dev nD) (t : Fin cfg1.N) : (dat V c).Φ t.castSucc = Φ V c t.val := rfl
theorem Φ_succ (c : Dev nD) (t : Fin cfg1.N) : (dat V c).Φ t.succ = Φ V c (t.val + 1) := rfl

/-- A point of the first round: the codes are made. -/
theorem sound_A (c : Dev nD) (t : Fin cfg1.N) (h : t.val < 16) :
    bodyPre V c t ⊢ wp frame (wpE (defs₀ (F := F)) Variants.none c none) Set.univ (bodyAt1 t) (fun _ => bodyPost V c t) := by
  have ht : t.val < 208 := t.isLt
  unfold bodyPre bodyPost bodyAt1
  rewrite [Φ_cast, Φ_succ, show (dat V c).owesAt () t.succ = (dat V c).owesAt () t.castSucc from rfl]
  simp only [before_0, before_1, before_2]
  unfold Φ
  iintro ⟨⟨⟨%S, %hS, HS⟩, HR, HP⟩, Ho, ⟨%d0, H0⟩, ⟨%d1, H1⟩, ⟨%d2, H2⟩, ⟨%d3, H3⟩, ⟨%d4, H4⟩, ⟨%d5, H5⟩⟩
  iapply (runA c (grid1.coords t) _ _ _ _ _ _ _ _ _ _ _ _ _ _ ((cond1_iff t).2 (by omega)) (fun h => absurd ((cond2_iff t).1 h) (by omega))
    (iblk V c 0 t) (iblk V c 1 t) (iblk V c 2 t) ((dat V c).before 3 t d3) ((dat V c).before 4 t d4) ((dat V c).before 5 t d5) S)
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, H5, ⟨%S', %hP, HS⟩⟩
  isplitl [HS HR HP]
  · isplitl [HS]
    · iexists S'; isplitr
      · ipureintro; exact Holds.put V c t (by omega) hS hP
      iexact HS
    isplitl [HR]; · iexact HR
    iexact HP
  isplitl [Ho]; · iexact Ho
  isplitl [H0]
  · iapply (leave_live (dat V c) 0 t rfl); rewrite [after_0]; iexact H0
  isplitl [H1]
  · iapply (leave_live (dat V c) 1 t rfl); rewrite [after_1]; iexact H1
  isplitl [H2]
  · iapply (leave_live (dat V c) 2 t rfl); rewrite [after_2]; iexact H2
  isplitl [H3]
  · iapply (leave_idle (dat V c) 3 t d3 (by rw [idle_3]; exact decide_eq_true (by omega)) (fun hf => absurd (of_decide_eq_true ((flush_3 t).symm.trans hf)) (by omega))); iexact H3
  isplitl [H4]
  · iapply (leave_live (dat V c) 4 t (by rw [idle_4]; exact decide_eq_false (by omega))); rewrite [after_4]; rewrite [cap_of_lt t (by omega)]; unfold cd; iexact H4
  iapply (leave_live (dat V c) 5 t (by rw [idle_5]; exact decide_eq_false (by omega))); rewrite [after_5]; rewrite [cap_of_lt t (by omega)]; iexact H5

/-- A point of the rounds 2 to 12: the codes are made and the previous row block is multiplied. -/
theorem sound_B (c : Dev nD) (t : Fin cfg1.N) (h1 : 16 ≤ t.val) (h2 : t.val < 192) :
    bodyPre V c t ⊢ wp frame (wpE (defs₀ (F := F)) Variants.none c none) Set.univ (bodyAt1 t) (fun _ => bodyPost V c t) := by
  have ht : t.val < 208 := t.isLt
  unfold bodyPre bodyPost bodyAt1
  rewrite [Φ_cast, Φ_succ, show (dat V c).owesAt () t.succ = (dat V c).owesAt () t.castSucc from rfl]
  simp only [before_0, before_1, before_2]
  unfold Φ
  iintro ⟨⟨⟨%S, %hS, HS⟩, HR, HP⟩, Ho, ⟨%d0, H0⟩, ⟨%d1, H1⟩, ⟨%d2, H2⟩, ⟨%d3, H3⟩, ⟨%d4, H4⟩, ⟨%d5, H5⟩⟩
  iapply (runB c (grid1.coords t) _ _ _ _ _ _ _ _ _ _ _ _ _ _ ((cond1_iff t).2 (by omega)) ((cond2_iff t).2 (by omega))
    (iblk V c 0 t) (iblk V c 1 t) (iblk V c 2 t) ((dat V c).before 3 t d3) ((dat V c).before 4 t d4) ((dat V c).before 5 t d5) S)
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, H5, ⟨%S', %hP, HS⟩⟩
  isplitl [HS HR HP]
  · isplitl [HS]
    · iexists S'; isplitr
      · ipureintro; exact Holds.put V c t (by omega) hS hP
      iexact HS
    isplitl [HR]; · iexact HR
    iexact HP
  isplitl [Ho]; · iexact Ho
  isplitl [H0]
  · iapply (leave_live (dat V c) 0 t rfl); rewrite [after_0]; iexact H0
  isplitl [H1]
  · iapply (leave_live (dat V c) 1 t rfl); rewrite [after_1]; iexact H1
  isplitl [H2]
  · iapply (leave_live (dat V c) 2 t rfl); rewrite [after_2]; iexact H2
  isplitl [H3]
  · iapply (leave_live (dat V c) 3 t (by rw [idle_3]; exact decide_eq_false (by omega))); rewrite [after_3]; rewrite [← Holds.slot V c t (by omega) hS]; iexact H3
  isplitl [H4]
  · iapply (leave_live (dat V c) 4 t (by rw [idle_4]; exact decide_eq_false (by omega))); rewrite [after_4]; rewrite [cap_of_lt t (by omega)]; unfold cd; iexact H4
  iapply (leave_live (dat V c) 5 t (by rw [idle_5]; exact decide_eq_false (by omega))); rewrite [after_5]; rewrite [cap_of_lt t (by omega)]; iexact H5

/-- A point of the thirteenth round: the last row block is multiplied. -/
theorem sound_C (c : Dev nD) (t : Fin cfg1.N) (h : 192 ≤ t.val) :
    bodyPre V c t ⊢ wp frame (wpE (defs₀ (F := F)) Variants.none c none) Set.univ (bodyAt1 t) (fun _ => bodyPost V c t) := by
  have ht : t.val < 208 := t.isLt
  unfold bodyPre bodyPost bodyAt1
  rewrite [Φ_cast, Φ_succ, show (dat V c).owesAt () t.succ = (dat V c).owesAt () t.castSucc from rfl]
  simp only [before_0, before_1, before_2]
  unfold Φ
  iintro ⟨⟨⟨%S, %hS, HS⟩, HR, HP⟩, Ho, ⟨%d0, H0⟩, ⟨%d1, H1⟩, ⟨%d2, H2⟩, ⟨%d3, H3⟩, ⟨%d4, H4⟩, ⟨%d5, H5⟩⟩
  iapply (runC c (grid1.coords t) _ _ _ _ _ _ _ _ _ _ _ _ _ _ (fun h => absurd ((cond1_iff t).1 h) (by omega)) ((cond2_iff t).2 (by omega))
    (iblk V c 0 t) (iblk V c 1 t) (iblk V c 2 t) ((dat V c).before 3 t d3) ((dat V c).before 4 t d4) ((dat V c).before 5 t d5) S)
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, H5, HS⟩
  isplitl [HS HR HP]
  · isplitl [HS]
    · iexists S; isplitr
      · ipureintro; exact Holds.keep V c t (by omega) hS
      iexact HS
    isplitl [HR]; · iexact HR
    iexact HP
  isplitl [Ho]; · iexact Ho
  isplitl [H0]
  · iapply (leave_live (dat V c) 0 t rfl); rewrite [after_0]; iexact H0
  isplitl [H1]
  · iapply (leave_live (dat V c) 1 t rfl); rewrite [after_1]; iexact H1
  isplitl [H2]
  · iapply (leave_live (dat V c) 2 t rfl); rewrite [after_2]; iexact H2
  isplitl [H3]
  · iapply (leave_live (dat V c) 3 t (by rw [idle_3]; exact decide_eq_false (by omega))); rewrite [after_3]; rewrite [← Holds.slot V c t (by omega) hS]; iexact H3
  isplitl [H4]
  · iapply (leave_idle (dat V c) 4 t d4 (by rw [idle_4]; exact decide_eq_true (by omega)) (fun _ => before_4 V c t (by omega) d4)); iexact H4
  iapply (leave_idle (dat V c) 5 t d5 (by rw [idle_5]; exact decide_eq_true (by omega)) (fun _ => before_5 V c t (by omega) d5)); iexact H5

/-- The body table's row at point `t`'s slots is the body. -/
theorem defs₀_row (t : Fin cfg1.N) : defs₀ (F := F) .tc cfg1.body (cfg1.bodyArgs t (cfg1.slots t)) = bodyAt1 t := by
  unfold defs₀; rw [Defs.onTc_tc]

theorem sound_body (c : Dev nD) (t : Fin cfg1.N) :
    bodyPre V c t ⊢ wp frame (wpE (defs₀ (F := F)) Variants.none c none) Set.univ (bodyAt1 t) (fun _ => bodyPost V c t) := by
  by_cases h1 : t.val < 16
  · exact sound_A V c t h1
  by_cases h2 : t.val < 192
  · exact sound_B V c t (by omega) h2
  exact sound_C V c t (by omega)

/-- The body obligation, at every point. -/
theorem body_obligation (c : Dev nD) : BodyObligation (dat V c) (defs₀ (F := F)) Variants.none () Set.univ := fun t => by
  rw [bigSep_W1, bigSep_W1, defs₀_row]
  exact triple_restated (sound_body V c t) rfl .rfl fun _ => .rfl

/-- The scoped buffers that are no staging buffer of this call: its scratch buffer, and the others. -/
theorem rest_eq (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- The region is entered from its scoped buffers and the random-number register, -/
theorem hin (c : Dev nD) :
    iprop(Pipeline.scopedRest (Ix := Unit) (Name := ℕ) (U := UR sig nD τ) (Lvl := ℕ) (Val := Elt F) spec1 c ∗ ∃ r, prngReg c r) ⊢ Φ V c 0 := by
  rw [rest_eq]
  unfold Φ
  iintro ⟨⟨HS, HR⟩, HP⟩
  isplitl [HS]
  · icases HS with ⟨%f, HS⟩
    iexists f
    isplitr; · ipureintro; exact Holds.zero V c f
    rw [owns_whole]
    iexact HS
  isplitl [HR]; · iexact HR
  iexact HP

/-- and gives them back at the end. -/
theorem hout (c : Dev nD) (n : ℕ) :
    Φ V c n ⊢ iprop(Pipeline.scopedRest (Ix := Unit) (Name := ℕ) (U := UR sig nD τ) (Lvl := ℕ) (Val := Elt F) spec1 c ∗ ∃ r, prngReg c r) := by
  rw [rest_eq]
  unfold Φ
  iintro ⟨⟨%S, %hS, HS⟩, HR, HP⟩
  isplitl [HS HR]
  · isplitl [HS]
    · iexists S
      rw [← owns_whole (c : Thread nD τ) cc1_scratch0 fullShare S]
      iexact HS
    iexact HR
  iexact HP

end Cert.KernelIdeal.Run.K1

end
-- ==== Proof.RunIdeal.Wgrad.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit
public import Idealize.ShloMosaic.Lib.WritesUnit
public import Idealize.ShloMosaic.Lib.VecWindow
public import Idealize.ShloMosaic.Lib.Pointwise.Index
public import Idealize.ShloMosaic.Lib.Pipeline.ValueKit.Acc
public import Idealize.ShloMosaic.Lib.WholeRead
public import Idealize.ShloMosaic.Lib.Pointwise
public import Idealize.ShloMosaic.Lib.Pipeline.TableIdle
public import proofs.«01_k».proof.Proof.RunIdeal.Common

@[expose] public section

noncomputable section

namespace Cert.KernelIdeal.Run.K2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body: the product of the two blocks, scaled and added to the block of the gradient. -/
theorem run (c : Dev nD) (i : grid2.Coords) (arg2 : Memref sig .tc .smem S1x3 .f32) (harg2 : arg2.IsWhole) (arg3 : Memref sig .tc .vmem S1024x12288 .fp8e5m2) (harg3 : arg3.IsWhole) (arg4 : Memref sig .tc .vmem S12288x512 .fp8e4m3) (harg4 : arg4.IsWhole) (arg5 : Memref sig .tc .vmem S1024x512 .f32) (harg5 : arg5.IsWhole) (arg6 : Memref sig .tc .vmem S1024x512 .f32) (harg6 : arg6.IsWhole)
    (x0 : Vec F S1x3 .f32) (x1 : Vec F S1024x12288 .fp8e5m2) (x2 : Vec F S12288x512 .fp8e4m3) (x3 : Vec F S1024x512 .f32) (d4 : Vec F S1024x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d4
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k2_pay1 x1 x2 x3 (scal x0 2))) -∗ K ⟨⟩))
      ⊢ wp frame (wpE (defs₀ (F := F)) Variants.none c none) Set.univ (cc2_wgrad i arg2 harg2 arg3 harg3 arg4 harg4 arg5 harg5 arg6 harg6) K := by
  simp only [cc2_wgrad_eq_skeleton]; unfold cc2_wgrad_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1; obtain rfl := harg4.eq_unread hf2; obtain rfl := harg5.eq_unread hf3
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr; swap; · iexact H4
  ipureintro; rw [store_whole _ (by decide)]; unfold run.sl.r; rw [load_whole harg3 (by decide), load_whole harg4 (by decide), load_whole harg5 (by decide), load_scal (n := 2) harg2 x0 2 rfl]

/-! ## The pipeline's proof data -/

variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The region's invariant: the scoped buffers that are no staging buffer of it, and the random-number register. -/
def Φ (c : Dev nD) : sProp 𝕄 :=
  iprop(Pipeline.scopedRest (Ix := Unit) (Name := ℕ) (U := UR sig nD τ) (Lvl := ℕ) (Val := Elt F) spec2 c ∗ ∃ r, prngReg c r)

/-- The pipeline's proof data: the inputs' buffers keep their blocks; the output's holds the updated block of the gradient. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => k2_pay1 (iblk V c 1 t) (iblk V c 2 t) (iblk V c 3 t) (scal (iblk V c 0 t) 2)
  Φ _ := Φ c
  q _ := fullShare
  owed _ := 0

theorem A_eq (c : Dev nD) (w : Fin cfg2.W) : (dat V c).A w = V c (Pipeline.arrRef spec2 w) := by dsimp only [dat]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = k2_pay1 (iblk V c 1 t) (iblk V c 2 t) (iblk V c 3 t) (scal (iblk V c 0 t) 2) := by dsimp only [dat]

/-- Each input's current buffer holds its block at every point. -/
theorem before_0 (c : Dev nD) (t : Fin cfg2.N) (d) : (dat V c).before 0 t d = iblk V c 0 t :=
  ((dat V c).before_in_eq_fetched 0 rfl (fun _ => rfl) (fun _ _ _ => rfl) (fun t => by rw [after_0]; unfold Dat.blockOf iblk; rw [A_eq]) t d).trans
    (by unfold Dat.fetched Dat.blockOf iblk; rw [A_eq]; try rfl)
theorem before_1 (c : Dev nD) (t : Fin cfg2.N) (d) : (dat V c).before 1 t d = iblk V c 1 t :=
  ((dat V c).before_in_eq_fetched 1 rfl (fun _ => rfl) (fun _ _ _ => rfl) (fun t => by rw [after_1]; unfold Dat.blockOf iblk; rw [A_eq]) t d).trans
    (by unfold Dat.fetched Dat.blockOf iblk; rw [A_eq]; try rfl)
theorem before_2 (c : Dev nD) (t : Fin cfg2.N) (d) : (dat V c).before 2 t d = iblk V c 2 t :=
  ((dat V c).before_in_eq_fetched 2 rfl (fun _ => rfl) (fun _ _ _ => rfl) (fun t => by rw [after_2]; unfold Dat.blockOf iblk; rw [A_eq]) t d).trans
    (by unfold Dat.fetched Dat.blockOf iblk; rw [A_eq]; try rfl)
theorem before_3 (c : Dev nD) (t : Fin cfg2.N) (d) : (dat V c).before 3 t d = iblk V c 3 t :=
  ((dat V c).before_in_eq_fetched 3 rfl (fun _ => rfl) (fun _ _ _ => rfl) (fun t => by rw [after_3]; unfold Dat.blockOf iblk; rw [A_eq]) t d).trans
    (by unfold Dat.fetched Dat.blockOf iblk; rw [A_eq]; try rfl)

/-! ## The body obligation -/

/-- What the body is called with at point `t`, -/
def bodyPre (c : Dev nD) (t : Fin cfg2.N) : sProp 𝕄 :=
  iprop((dat V c).Φ t.castSucc ∗ (dat V c).owesAt () t.castSucc
    ∗ (∃ d, owns (c : Thread nD τ) ((cfg2.win 0).stage (cfg2.slots t 0)) fullShare ((dat V c).before 0 t d))
    ∗ (∃ d, owns (c : Thread nD τ) ((cfg2.win 1).stage (cfg2.slots t 1)) fullShare ((dat V c).before 1 t d))
    ∗ (∃ d, owns (c : Thread nD τ) ((cfg2.win 2).stage (cfg2.slots t 2)) fullShare ((dat V c).before 2 t d))
    ∗ (∃ d, owns (c : Thread nD τ) ((cfg2.win 3).stage (cfg2.slots t 3)) fullShare ((dat V c).before 3 t d))
    ∗ (∃ d, owns (c : Thread nD τ) ((cfg2.win 4).stage (cfg2.slots t 4)) fullShare ((dat V c).before 4 t d)))

/-- and what it returns. -/
def bodyPost (c : Dev nD) (t : Fin cfg2.N) : sProp 𝕄 :=
  iprop((dat V c).Φ t.succ ∗ (dat V c).owesAt () t.succ ∗ (dat V c).leavesExact 0 t ∗ (dat V c).leavesExact 1 t ∗ (dat V c).leavesExact 2 t ∗ (dat V c).leavesExact 3 t ∗ (dat V c).leavesExact 4 t)

theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  rewrite [show (dat V c).Φ t.succ = (dat V c).Φ t.castSucc from rfl, show (dat V c).owesAt () t.succ = (dat V c).owesAt () t.castSucc from rfl]
  simp only [before_0, before_1, before_2, before_3]
  iintro ⟨HΦ, Ho, ⟨%d0, H0⟩, ⟨%d1, H1⟩, ⟨%d2, H2⟩, ⟨%d3, H3⟩, ⟨%d4, H4⟩⟩
  iapply (run c (grid2.coords t) _ _ _ _ _ _ _ _ _ _ (iblk V c 0 t) (iblk V c 1 t) (iblk V c 2 t) (iblk V c 3 t) ((dat V c).before 4 t d4))
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Ho]; · iexact Ho
  isplitl [H0]
  · iapply (leave_live (dat V c) 0 t rfl); rewrite [after_0]; iexact H0
  isplitl [H1]
  · iapply (leave_live (dat V c) 1 t rfl); rewrite [after_1]; iexact H1
  isplitl [H2]
  · iapply (leave_live (dat V c) 2 t rfl); rewrite [after_2]; iexact H2
  isplitl [H3]
  · iapply (leave_live (dat V c) 3 t rfl); rewrite [after_3]; iexact H3
  iapply (leave_live (dat V c) 4 t rfl); rewrite [after_4]; iexact H4

/-- The body table's row at point `t`'s slots is the body. -/
theorem defs₀_row (t : Fin cfg2.N) : defs₀ (F := F) .tc cfg2.body (cfg2.bodyArgs t (cfg2.slots t)) = bodyAt2 t := by
  unfold defs₀; rw [Defs.onTc_tc]

/-- The body obligation, at every point. -/
theorem body_obligation (c : Dev nD) : BodyObligation (dat V c) (defs₀ (F := F)) Variants.none () Set.univ := fun t => by
  rw [bigSep_W2, bigSep_W2, defs₀_row]
  exact triple_restated (sound_body V c t) rfl .rfl fun _ => .rfl

end Cert.KernelIdeal.Run.K2

end
-- ==== Proof.RunIdeal.Run.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit
public import Idealize.ShloMosaic.Lib.WritesUnit
public import Idealize.ShloMosaic.Lib.VecWindow
public import Idealize.ShloMosaic.Lib.Pointwise.Index
public import Idealize.ShloMosaic.Lib.Pipeline.ValueKit.Acc
public import Idealize.ShloMosaic.Lib.WholeRead
public import Idealize.ShloMosaic.Lib.Pointwise
public import Idealize.ShloMosaic.Lib.Pipeline.TableIdle
public import Idealize.ShloMosaic.Lib.Pipeline.Regions
public import Idealize.ShloMosaic.Lib.Pipeline.RegionArrays
public import proofs.«01_k».proof.Proof.Gen.KernelIdeal.Regions
public import proofs.«01_k».proof.Proof.RunIdeal.Amax
public import proofs.«01_k».proof.Proof.RunIdeal.Dgrad
public import proofs.«01_k».proof.Proof.RunIdeal.Wgrad

@[expose] public section

noncomputable section

/-! The whole run: the three kernels' records joined to the host stretches between them, with the contents of every unscoped
    buffer at the end. -/

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

/-! ## What the kernels leave -/

section

variable (m : (ℓ : Loc nD τ sig) → Buf (Elt F) ℓ)

/-- The first kernel's entry contents: the launch's, after the two host casts. -/
abbrev Ve0 (c : Dev nD) (b : Ref sig .tc) : Buf (Elt F) ((c : Thread nD τ).loc b) := V1 m c (Proc.devRef .tc b)

/-- The buffers after the first kernel: the largest magnitude's cell is what its pipeline leaves. -/
def X2 (c : Dev nD) : Valuation τ sig (Elt F) := Function.update (V1 m c) main_v2 ((K0.dat (Ve0 m) c).arrAt 1 cfg0.N)

/-- The contents left, as far as the first kernel. -/
def outsA : Outs (F := F) := fun _ r c => X2 m c (Proc.devRef .tc r)

/-- The second kernel's entry contents: after the host's scale arithmetic. -/
abbrev VeA (c : Dev nD) (b : Ref sig .tc) : Buf (Elt F) ((c : Thread nD τ).loc b) := V7 m (outsA m) c (Proc.devRef .tc b)

/-- The buffers after the second kernel: the gradient, the codes and the transposed codes are what its pipeline leaves. -/
def X8 (c : Dev nD) : Valuation τ sig (Elt F) :=
  Function.update (Function.update (Function.update (V7 m (outsA m) c) main_v36_0 ((K1.dat (VeA m) c).arrAt 3 cfg1.N))
    main_v36_1 ((K1.dat (VeA m) c).arrAt 4 cfg1.N)) main_v36_2 ((K1.dat (VeA m) c).arrAt 5 cfg1.N)

/-- The contents left, as far as the second kernel. -/
def outsB : Outs (F := F)
  | 2 => fun r c => X2 m c (Proc.devRef .tc r)
  | _ => fun r c => X8 m c (Proc.devRef .tc r)

/-- The third kernel's entry contents. -/
abbrev VeB (c : Dev nD) (b : Ref sig .tc) : Buf (Elt F) ((c : Thread nD τ).loc b) := V8 m (outsB m) c (Proc.devRef .tc b)

/-- The buffers after the third kernel: the weight gradient is what its pipeline leaves. -/
def X9 (c : Dev nD) : Valuation τ sig (Elt F) := Function.update (V8 m (outsB m) c) main_v37 ((K2.dat (VeB m) c).arrAt 4 cfg2.N)

/-- The contents the three kernels leave. -/
def outs : Outs (F := F)
  | 2 => fun r c => X2 m c (Proc.devRef .tc r)
  | 8 => fun r c => X8 m c (Proc.devRef .tc r)
  | _ => fun r c => X9 m c (Proc.devRef .tc r)

theorem V2_outs (c : Dev nD) : V2 m (outs m) c = V2 m (outsA m) c := rfl
theorem V3_outs (c : Dev nD) : V3 m (outs m) c = V3 m (outsA m) c := congrArg (StableHlo.after hostOps1) (V2_outs m c)
theorem V4_outs (c : Dev nD) : V4 m (outs m) c = V4 m (outsA m) c := congrArg (StableHlo.after hostOps1_1) (V3_outs m c)
theorem V5_outs (c : Dev nD) : V5 m (outs m) c = V5 m (outsA m) c := congrArg (StableHlo.after hostOps1_2) (V4_outs m c)
theorem V6_outs (c : Dev nD) : V6 m (outs m) c = V6 m (outsA m) c := congrArg (StableHlo.after hostOps1_3) (V5_outs m c)
/-- The second kernel is entered from the same contents under `outs`, -/
theorem V7_outs (c : Dev nD) : V7 m (outs m) c = V7 m (outsA m) c := congrArg (StableHlo.after hostOps1_4) (V6_outs m c)
theorem V2_outsB (c : Dev nD) : V2 m (outsB m) c = V2 m (outsA m) c := rfl
theorem V3_outsB (c : Dev nD) : V3 m (outsB m) c = V3 m (outsA m) c := congrArg (StableHlo.after hostOps1) (V2_outsB m c)
theorem V4_outsB (c : Dev nD) : V4 m (outsB m) c = V4 m (outsA m) c := congrArg (StableHlo.after hostOps1_1) (V3_outsB m c)
theorem V5_outsB (c : Dev nD) : V5 m (outsB m) c = V5 m (outsA m) c := congrArg (StableHlo.after hostOps1_2) (V4_outsB m c)
theorem V6_outsB (c : Dev nD) : V6 m (outsB m) c = V6 m (outsA m) c := congrArg (StableHlo.after hostOps1_3) (V5_outsB m c)
theorem V7_outsB (c : Dev nD) : V7 m (outsB m) c = V7 m (outsA m) c := congrArg (StableHlo.after hostOps1_4) (V6_outsB m c)
/-- and so is the third. -/
theorem V8_outs (c : Dev nD) : V8 m (outs m) c = V8 m (outsB m) c := by
  show Function.update (Function.update (Function.update (V7 m (outs m) c) main_v36_0 _) main_v36_1 _) main_v36_2 _
    = Function.update (Function.update (Function.update (V7 m (outsB m) c) main_v36_0 _) main_v36_1 _) main_v36_2 _
  rw [V7_outs, V7_outsB]
  rfl

theorem outs_v2 (c : Dev nD) : outs m 2 main_v2 c = (K0.dat (Ve0 m) c).arrAt 1 cfg0.N := by
  show X2 m c main_v2 = _
  simp only [X2, Function.update_self]
theorem outs_v36_2 (c : Dev nD) : outs m 8 main_v36_2 c = (K1.dat (VeA m) c).arrAt 5 cfg1.N := by
  show X8 m c main_v36_2 = _
  simp only [X8, Function.update_self]
theorem outs_v36_1 (c : Dev nD) : outs m 8 main_v36_1 c = (K1.dat (VeA m) c).arrAt 4 cfg1.N := by
  show X8 m c main_v36_1 = _
  rw [X8, Function.update_of_ne (by decide), Function.update_self]
theorem outs_v36_0 (c : Dev nD) : outs m 8 main_v36_0 c = (K1.dat (VeA m) c).arrAt 3 cfg1.N := by
  show X8 m c main_v36_0 = _
  rw [X8, Function.update_of_ne (by decide), Function.update_of_ne (by decide), Function.update_self]
theorem outs_v37 (c : Dev nD) : outs m 9 main_v37 c = (K2.dat (VeB m) c).arrAt 4 cfg2.N := by
  show X9 m c main_v37 = _
  simp only [X9, Function.update_self]

theorem V2_at (c : Dev nD) : V2 m (outs m) c main_v2 = (K0.dat (Ve0 m) c).arrAt 1 cfg0.N := by
  rw [← outs_v2]; simp only [V2, Function.update_self]
theorem V8_at_2 (c : Dev nD) : V8 m (outs m) c main_v36_2 = (K1.dat (VeA m) c).arrAt 5 cfg1.N := by
  rw [← outs_v36_2]; simp only [V8, Function.update_self]
theorem V8_at_1 (c : Dev nD) : V8 m (outs m) c main_v36_1 = (K1.dat (VeA m) c).arrAt 4 cfg1.N := by
  rw [← outs_v36_1, V8, Function.update_of_ne (by decide), Function.update_self]
theorem V8_at_0 (c : Dev nD) : V8 m (outs m) c main_v36_0 = (K1.dat (VeA m) c).arrAt 3 cfg1.N := by
  rw [← outs_v36_0, V8, Function.update_of_ne (by decide), Function.update_of_ne (by decide), Function.update_self]
theorem V9_at (c : Dev nD) : V9 m (outs m) c main_v37 = (K2.dat (VeB m) c).arrAt 4 cfg2.N := by
  rw [← outs_v37]; simp only [V9, Function.update_self]

/-! ## The regions' arrays -/

/-- Each window's array of region 0 is in the region's array set, -/
theorem arr0_mem (w : Fin cfg0.W) : (Proc.devRef .tc (Pipeline.arrRef spec0 w) : DevRef τ sig) ∈ Pipeline.arrRefs (τ := τ) spec0 :=
  Finset.mem_map_of_mem _ (Finset.mem_image_of_mem _ (Finset.mem_univ w))
/-- they are unscoped buffers, -/
theorem arr0_S : Pipeline.arrRefs (τ := τ) spec0 ⊆ Pipeline.ucRefs τ sig :=
  Pipeline.arrRefs_sub_ucRefs spec0 (by decide)
/-- and the region changes no other buffer. -/
theorem rest0_eq (c : Dev nD) : ∀ b ∈ (Pipeline.ucRefs τ sig) \ Pipeline.arrRefs (τ := τ) spec0, V2 m (outs m) c b = V1 m c b := fun b hb => by
  have hn : b ∉ Pipeline.arrRefs (τ := τ) spec0 := (Finset.mem_sdiff.mp hb).2
  have h1 : b ≠ Proc.devRef .tc main_v2 := by rintro rfl; exact hn (arr0_mem 1)
  simp only [V2, Function.update_of_ne h1]

/-- Each window's array of region 1 is in the region's array set, -/
theorem arr1_mem (w : Fin cfg1.W) : (Proc.devRef .tc (Pipeline.arrRef spec1 w) : DevRef τ sig) ∈ Pipeline.arrRefs (τ := τ) spec1 :=
  Finset.mem_map_of_mem _ (Finset.mem_image_of_mem _ (Finset.mem_univ w))
/-- they are unscoped buffers, -/
theorem arr1_S : Pipeline.arrRefs (τ := τ) spec1 ⊆ Pipeline.ucRefs τ sig :=
  Pipeline.arrRefs_sub_ucRefs spec1 (by decide)
/-- and the region changes no other buffer. -/
theorem rest1_eq (c : Dev nD) : ∀ b ∈ (Pipeline.ucRefs τ sig) \ Pipeline.arrRefs (τ := τ) spec1, V8 m (outs m) c b = V7 m (outs m) c b := fun b hb => by
  have hn : b ∉ Pipeline.arrRefs (τ := τ) spec1 := (Finset.mem_sdiff.mp hb).2
  have h3 : b ≠ Proc.devRef .tc main_v36_0 := by rintro rfl; exact hn (arr1_mem 3)
  have h4 : b ≠ Proc.devRef .tc main_v36_1 := by rintro rfl; exact hn (arr1_mem 4)
  have h5 : b ≠ Proc.devRef .tc main_v36_2 := by rintro rfl; exact hn (arr1_mem 5)
  simp only [V8, Function.update_of_ne h3, Function.update_of_ne h4, Function.update_of_ne h5]

/-- Each window's array of region 2 is in the region's array set, -/
theorem arr2_mem (w : Fin cfg2.W) : (Proc.devRef .tc (Pipeline.arrRef spec2 w) : DevRef τ sig) ∈ Pipeline.arrRefs (τ := τ) spec2 :=
  Finset.mem_map_of_mem _ (Finset.mem_image_of_mem _ (Finset.mem_univ w))
/-- they are unscoped buffers, -/
theorem arr2_S : Pipeline.arrRefs (τ := τ) spec2 ⊆ Pipeline.ucRefs τ sig :=
  Pipeline.arrRefs_sub_ucRefs spec2 (by decide)
/-- and the region changes no other buffer. -/
theorem rest2_eq (c : Dev nD) : ∀ b ∈ (Pipeline.ucRefs τ sig) \ Pipeline.arrRefs (τ := τ) spec2, V9 m (outs m) c b = V8 m (outs m) c b := fun b hb => by
  have hn : b ∉ Pipeline.arrRefs (τ := τ) spec2 := (Finset.mem_sdiff.mp hb).2
  have h4 : b ≠ Proc.devRef .tc main_v37 := by rintro rfl; exact hn (arr2_mem 4)
  simp only [V9, Function.update_of_ne h4]

/-! ## The records -/

/-- The proof data of the three pipelines. -/
def pdats : (p : Fin 3) → (c : Dev nD) → Dat τ (Elt F) Unit ℕ (UR sig nD τ) ℕ (cfgs p) c
  | ⟨0, _⟩ => fun c => K0.dat (Ve0 m) c
  | ⟨1, _⟩ => fun c => K1.dat (VeA m) c
  | ⟨2, _⟩ => fun c => K2.dat (VeB m) c

end

/-- One index at every TensorCore's semaphore, -/
def L : GSem nD τ sig → Finset Unit := fun g => if g.1.2 = .tc then {()} else ∅
/-- all at one level: a core owes nothing. -/
def lv : GSem nD τ sig → Unit → ℕ := fun _ _ => 0

theorem hL (g : GSem nD τ sig) (h : g.1.2 ≠ .tc) : L g = ∅ := if_neg h

theorem hcut (p : Fin 3) : Pipeline.LevelCut (pcfgs (F := F)) adm () L lv p 0 (fun _ => 0) where
  hι _ _ _ := by unfold L; rw [if_pos rfl]; exact Finset.mem_singleton_self _
  hιb _ _ _ := le_refl _
  hD _ _ _ h := absurd h (lt_irrefl _)

/-- What a core holds beside the buffers between two items: its random-number register, and that it owes nothing. -/
def E (_ : Fin 4) (c : Dev nD) : sProp 𝕄 := iprop((∃ r, prngReg c r) ∗ ∃ W, owes (c : Thread nD τ) (0 : CellTallies nD τ sig Unit) W)

section

variable (m : (ℓ : Loc nD τ sig) → Buf (Elt F) ℓ)

-- a library definition stated over `pin pcs a p` unifies with the pinned configuration only when unification may unfold plain
-- definitions in a metavariable's type
set_option backward.isDefEq.respectTransparency.types false in
/-- Region 0's record: its arrays in and out, every other buffer riding along. -/
def R0 : RegionSeg (pcfgs (F := F)) adm (pdats m) () defs₀ Variants.none L lv 0 :=
  Pipeline.RegionSeg.ofHeld (pcfgs (F := F)) adm (pdats m) () defs₀ Variants.none L lv 0 0
    (fun c => iprop(∃ r, prngReg c r)) (fun c => iprop(∃ r, prngReg c r))
    launch0.toP rfl
    (fun c => (K0.body_obligation (Ve0 m) c).loose) (fun _ _ => rfl) (fun _ => rfl)
    (fun c => (pdats m 0 c).share_full fun _ => rfl) (fun c => K0.hin (Ve0 m) c) (fun c => K0.hout (Ve0 m) c _) (fun _ => 0) (hcut 0)
    (fun c => StableHlo.held (c : Thread nD τ) ((Pipeline.ucRefs τ sig) \ Pipeline.arrRefs (τ := τ) spec0) (V1 m c))
    (V1 m) (V2 m (outs m)) (fun c w => (K0.A_eq (Ve0 m) c w))
    (fun c => fun
      | 0 => ((pdats m 0 c).arrAt_in 0 rfl _).trans (((K0.A_eq (Ve0 m) c 0)).trans (V2_of m (outs m) c (Pipeline.arrRef spec0 0) (by decide)).symm)
      | 1 => (V2_at m c).symm
      | ⟨_ + 2, h⟩ => absurd h (Nat.not_lt.2 (Nat.le_add_left _ _)))

/-- It is entered from the thread state before it, -/
theorem hpre0 (c : Dev nD) :
    iprop(StableHlo.held (c : Thread nD τ) (Pipeline.ucRefs τ sig) (V1 m c) ∗ E 0 c) ⊢ (R0 m).pre c := by
  show _ ⊢ iprop(StableHlo.held (c : Thread nD τ) (Pipeline.arrRefs (τ := τ) spec0) (V1 m c) ∗ (∃ r, prngReg c r)
    ∗ StableHlo.held (c : Thread nD τ) ((Pipeline.ucRefs τ sig) \ Pipeline.arrRefs (τ := τ) spec0) (V1 m c)
    ∗ ∃ W, owes (c : Thread nD τ) (0 : CellTallies nD τ sig Unit) W)
  rw [StableHlo.held_sub_split (c : Thread nD τ) arr0_S (V1 m c)]
  unfold E
  iintro ⟨⟨Ha, Hr⟩, Hp, HO⟩
  isplitl [Ha]; · iexact Ha
  isplitl [Hp]; · iexact Hp
  isplitl [Hr]; · iexact Hr
  iexact HO

/-- and left at the one after it. -/
theorem hpost0 (c : Dev nD) :
    (R0 m).post c ⊢ iprop(StableHlo.held (c : Thread nD τ) (Pipeline.ucRefs τ sig) (V2 m (outs m) c) ∗ E 1 c) := by
  show iprop(StableHlo.held (c : Thread nD τ) (Pipeline.arrRefs (τ := τ) spec0) (V2 m (outs m) c) ∗ (∃ r, prngReg c r)
    ∗ StableHlo.held (c : Thread nD τ) ((Pipeline.ucRefs τ sig) \ Pipeline.arrRefs (τ := τ) spec0) (V1 m c)
    ∗ ∃ W, owes (c : Thread nD τ) (0 : CellTallies nD τ sig Unit) W) ⊢ _
  rw [StableHlo.held_sub_split (c : Thread nD τ) arr0_S (V2 m (outs m) c),
    StableHlo.held_congr (c : Thread nD τ) (S := (Pipeline.ucRefs τ sig) \ Pipeline.arrRefs (τ := τ) spec0) (rest0_eq m c)]
  unfold E
  iintro ⟨Ha, Hp, Hr, HO⟩
  isplitl [Ha Hr]; · isplitl [Ha] <;> iassumption
  isplitl [Hp]; · iexact Hp
  iexact HO

-- a library definition stated over `pin pcs a p` unifies with the pinned configuration only when unification may unfold plain
-- definitions in a metavariable's type
set_option backward.isDefEq.respectTransparency.types false in
/-- Region 1's record: its arrays in and out, every other buffer riding along. -/
def R1 : RegionSeg (pcfgs (F := F)) adm (pdats m) () defs₀ Variants.none L lv 1 :=
  Pipeline.RegionSeg.ofHeld (pcfgs (F := F)) adm (pdats m) () defs₀ Variants.none L lv 1 0
    (fun c => iprop(∃ r, prngReg c r)) (fun c => iprop(∃ r, prngReg c r))
    launch1.toP rfl
    (fun c => (K1.body_obligation (VeA m) c).loose) (fun _ _ => rfl) (fun _ => rfl)
    (fun c => (pdats m 1 c).share_full fun _ => rfl) (fun c => K1.hin (VeA m) c) (fun c => K1.hout (VeA m) c _) (fun _ => 0) (hcut 1)
    (fun c => StableHlo.held (c : Thread nD τ) ((Pipeline.ucRefs τ sig) \ Pipeline.arrRefs (τ := τ) spec1) (V7 m (outs m) c))
    (V7 m (outs m)) (V8 m (outs m)) (fun c w => (K1.A_eq (VeA m) c w).trans (congrFun (V7_outs m c) _).symm)
    (fun c => fun
      | 0 => ((pdats m 1 c).arrAt_in 0 rfl _).trans (((K1.A_eq (VeA m) c 0).trans (congrFun (V7_outs m c) _).symm).trans (V8_of m (outs m) c (Pipeline.arrRef spec1 0) (by decide)).symm)
      | 1 => ((pdats m 1 c).arrAt_in 1 rfl _).trans (((K1.A_eq (VeA m) c 1).trans (congrFun (V7_outs m c) _).symm).trans (V8_of m (outs m) c (Pipeline.arrRef spec1 1) (by decide)).symm)
      | 2 => ((pdats m 1 c).arrAt_in 2 rfl _).trans (((K1.A_eq (VeA m) c 2).trans (congrFun (V7_outs m c) _).symm).trans (V8_of m (outs m) c (Pipeline.arrRef spec1 2) (by decide)).symm)
      | 3 => (V8_at_0 m c).symm
      | 4 => (V8_at_1 m c).symm
      | 5 => (V8_at_2 m c).symm
      | ⟨_ + 6, h⟩ => absurd h (Nat.not_lt.2 (Nat.le_add_left _ _)))

/-- It is entered from the thread state before it, -/
theorem hpre1 (c : Dev nD) :
    iprop(StableHlo.held (c : Thread nD τ) (Pipeline.ucRefs τ sig) (V7 m (outs m) c) ∗ E 1 c) ⊢ (R1 m).pre c := by
  show _ ⊢ iprop(StableHlo.held (c : Thread nD τ) (Pipeline.arrRefs (τ := τ) spec1) (V7 m (outs m) c) ∗ (∃ r, prngReg c r)
    ∗ StableHlo.held (c : Thread nD τ) ((Pipeline.ucRefs τ sig) \ Pipeline.arrRefs (τ := τ) spec1) (V7 m (outs m) c)
    ∗ ∃ W, owes (c : Thread nD τ) (0 : CellTallies nD τ sig Unit) W)
  rw [StableHlo.held_sub_split (c : Thread nD τ) arr1_S (V7 m (outs m) c)]
  unfold E
  iintro ⟨⟨Ha, Hr⟩, Hp, HO⟩
  isplitl [Ha]; · iexact Ha
  isplitl [Hp]; · iexact Hp
  isplitl [Hr]; · iexact Hr
  iexact HO

/-- and left at the one after it. -/
theorem hpost1 (c : Dev nD) :
    (R1 m).post c ⊢ iprop(StableHlo.held (c : Thread nD τ) (Pipeline.ucRefs τ sig) (V8 m (outs m) c) ∗ E 2 c) := by
  show iprop(StableHlo.held (c : Thread nD τ) (Pipeline.arrRefs (τ := τ) spec1) (V8 m (outs m) c) ∗ (∃ r, prngReg c r)
    ∗ StableHlo.held (c : Thread nD τ) ((Pipeline.ucRefs τ sig) \ Pipeline.arrRefs (τ := τ) spec1) (V7 m (outs m) c)
    ∗ ∃ W, owes (c : Thread nD τ) (0 : CellTallies nD τ sig Unit) W) ⊢ _
  rw [StableHlo.held_sub_split (c : Thread nD τ) arr1_S (V8 m (outs m) c),
    StableHlo.held_congr (c : Thread nD τ) (S := (Pipeline.ucRefs τ sig) \ Pipeline.arrRefs (τ := τ) spec1) (rest1_eq m c)]
  unfold E
  iintro ⟨Ha, Hp, Hr, HO⟩
  isplitl [Ha Hr]; · isplitl [Ha] <;> iassumption
  isplitl [Hp]; · iexact Hp
  iexact HO

-- a library definition stated over `pin pcs a p` unifies with the pinned configuration only when unification may unfold plain
-- definitions in a metavariable's type
set_option backward.isDefEq.respectTransparency.types false in
/-- Region 2's record: its arrays in and out, every other buffer riding along. -/
def R2 : RegionSeg (pcfgs (F := F)) adm (pdats m) () defs₀ Variants.none L lv 2 :=
  Pipeline.RegionSeg.ofHeld (pcfgs (F := F)) adm (pdats m) () defs₀ Variants.none L lv 2 0
    (fun c => iprop(∃ r, prngReg c r)) (fun c => iprop(∃ r, prngReg c r))
    launch2.toP rfl
    (fun c => (K2.body_obligation (VeB m) c).loose) (fun _ _ => rfl) (fun _ => rfl)
    (fun c => (pdats m 2 c).share_full fun _ => rfl) (fun _ => .rfl) (fun _ => .rfl) (fun _ => 0) (hcut 2)
    (fun c => StableHlo.held (c : Thread nD τ) ((Pipeline.ucRefs τ sig) \ Pipeline.arrRefs (τ := τ) spec2) (V8 m (outs m) c))
    (V8 m (outs m)) (V9 m (outs m)) (fun c w => (K2.A_eq (VeB m) c w).trans (congrFun (V8_outs m c) _).symm)
    (fun c => fun
      | 0 => ((pdats m 2 c).arrAt_in 0 rfl _).trans (((K2.A_eq (VeB m) c 0).trans (congrFun (V8_outs m c) _).symm).trans (V9_of m (outs m) c (Pipeline.arrRef spec2 0) (by decide)).symm)
      | 1 => ((pdats m 2 c).arrAt_in 1 rfl _).trans (((K2.A_eq (VeB m) c 1).trans (congrFun (V8_outs m c) _).symm).trans (V9_of m (outs m) c (Pipeline.arrRef spec2 1) (by decide)).symm)
      | 2 => ((pdats m 2 c).arrAt_in 2 rfl _).trans (((K2.A_eq (VeB m) c 2).trans (congrFun (V8_outs m c) _).symm).trans (V9_of m (outs m) c (Pipeline.arrRef spec2 2) (by decide)).symm)
      | 3 => ((pdats m 2 c).arrAt_in 3 rfl _).trans (((K2.A_eq (VeB m) c 3).trans (congrFun (V8_outs m c) _).symm).trans (V9_of m (outs m) c (Pipeline.arrRef spec2 3) (by decide)).symm)
      | 4 => (V9_at m c).symm
      | ⟨_ + 5, h⟩ => absurd h (Nat.not_lt.2 (Nat.le_add_left _ _)))

/-- It is entered from the thread state before it, -/
theorem hpre2 (c : Dev nD) :
    iprop(StableHlo.held (c : Thread nD τ) (Pipeline.ucRefs τ sig) (V8 m (outs m) c) ∗ E 2 c) ⊢ (R2 m).pre c := by
  show _ ⊢ iprop(StableHlo.held (c : Thread nD τ) (Pipeline.arrRefs (τ := τ) spec2) (V8 m (outs m) c) ∗ (∃ r, prngReg c r)
    ∗ StableHlo.held (c : Thread nD τ) ((Pipeline.ucRefs τ sig) \ Pipeline.arrRefs (τ := τ) spec2) (V8 m (outs m) c)
    ∗ ∃ W, owes (c : Thread nD τ) (0 : CellTallies nD τ sig Unit) W)
  rw [StableHlo.held_sub_split (c : Thread nD τ) arr2_S (V8 m (outs m) c)]
  unfold E
  iintro ⟨⟨Ha, Hr⟩, Hp, HO⟩
  isplitl [Ha]; · iexact Ha
  isplitl [Hp]; · iexact Hp
  isplitl [Hr]; · iexact Hr
  iexact HO

/-- and left at the one after it. -/
theorem hpost2 (c : Dev nD) :
    (R2 m).post c ⊢ iprop(StableHlo.held (c : Thread nD τ) (Pipeline.ucRefs τ sig) (V9 m (outs m) c) ∗ E 3 c) := by
  show iprop(StableHlo.held (c : Thread nD τ) (Pipeline.arrRefs (τ := τ) spec2) (V9 m (outs m) c) ∗ (∃ r, prngReg c r)
    ∗ StableHlo.held (c : Thread nD τ) ((Pipeline.ucRefs τ sig) \ Pipeline.arrRefs (τ := τ) spec2) (V8 m (outs m) c)
    ∗ ∃ W, owes (c : Thread nD τ) (0 : CellTallies nD τ sig Unit) W) ⊢ _
  rw [StableHlo.held_sub_split (c : Thread nD τ) arr2_S (V9 m (outs m) c),
    StableHlo.held_congr (c : Thread nD τ) (S := (Pipeline.ucRefs τ sig) \ Pipeline.arrRefs (τ := τ) spec2) (rest2_eq m c)]
  unfold E
  iintro ⟨Ha, Hp, Hr, HO⟩
  isplitl [Ha Hr]; · isplitl [Ha] <;> iassumption
  isplitl [Hp]; · iexact Hp
  iexact HO

end

/-! ## The run -/

/-- The pipelines' protocol is the whole user algebra. -/
def EP : Emb (URounds (GSem nD τ sig) Unit) 𝕄 :=
  (uEmb (nD := nD) (sig := sig) (Ix := Unit) (Val := Elt F) (Name := ℕ) (U := UR sig nD τ) (Lvl := ℕ)).toEmb
instance EP_landsIn : (EP : Emb (URounds (GSem nD τ sig) Unit) 𝕄).LandsIn (upEmb : UEmb _ 𝕄) := by unfold EP; infer_instance

variable (m : (ℓ : Loc nD τ sig) → Buf (Elt F) ℓ) (ρ : Dev nD → PrngReg)

set_option backward.isDefEq.respectTransparency.types false in
/-- From any memory with zero counters every weakly fair execution of the program terminates; every final state holds each
    unscoped buffer of a core at the contents computed item by item, and has every semaphore counter at zero. -/
theorem run : θ_run defs (onTc (τ := τ) (main (F := F))) ⟨m, fun _ => 0, ρ⟩
    (fun r => (∀ c : Dev nD, ∀ b ∈ Pipeline.ucRefs τ sig, r.2.mem (c, b) = V10 m (outs m) c b) ∧ r.2.sem = fun _ => 0) := by
  refine Pipeline.θ_run_regions_kit_dev_sems (pcfgs (F := F)) adm (pdats m) () cellOf_inj EP defs₀ Variants.none L lv m ρ main
    (segs m (outs m) Variants.none L lv E () (pdats m) (R0 m) (R1 m) (R2 m))
    (fun c Q => by
      rewrite [main_chain c, Seg.run_eq_chain,
        show (segs m (outs m) Variants.none L lv E () (pdats m) (R0 m) (R1 m) (R2 m) c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          Prog.lift (.customCall (Pipeline.entry 2) ()),
          StableHlo.seq hostOps3 ] from rfl]
      dsimp (config := { failIfUnchanged := false }) only
      exact .rfl)
    (fun c => by simp only [segs, Seg.pipes_host, Seg.pipes_region, Seg.pipes_nil]; decide) (O₀ := 0) (hL := hL) (G := fun _ => iprop(emp))
    (u₀ := initOf (Pipeline.cells cfgs cellOf_inj) (Pipeline.launchToks cfgs cellOf_inj))
    (hu₀ := by
      refine BIBase.Entails.trans (show _ ⊢ BI.own (EP (initOf (Pipeline.cells cfgs cellOf_inj) (Pipeline.launchToks cfgs cellOf_inj))) from .rfl) ?_
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V10 m (outs m) c))
    (hch := fun c => ⟨.rfl, hpre0 m c, hpost0 m c, .rfl, .rfl, .rfl, .rfl, hpre1 m c, (hpost1 m c).trans (hpre2 m c), hpost2 m c, sep_mono .rfl (by unfold E; iintro ⟨-, HO⟩; iexact HO)⟩)
    (hinit := ?_) (QY := fun c s => ∀ b ∈ Pipeline.ucRefs τ sig, s.mem (c, b) = V10 m (outs m) c b)
    (hfin := fun c s' => ?_) (hQ := fun _ h hz => ⟨h, funext fun g => hz g (.inr (regions_no_unscoped g.2))⟩)
  · refine Pipeline.initEach L lv fun c => ?_
    rw [show unscopedBufs c (fun b => m ((c : Thread nD τ).loc b)) = StableHlo.held (c : Thread nD τ) (Pipeline.ucRefs τ sig) (V0 m c) from
      Pipeline.unscopedBufs_held c (V0 m c)]
    unfold E
    iintro ⟨⟨Hh, -, HO, -, HP, -⟩, -⟩
    imodintro
    isplitl [Hh]; · iexact Hh
    isplitl [HP]; · iexists _; iexact HP
    iexists ∅; iexact HO
  · unfold StableHlo.held
    iintro ⟨Hh, HSI⟩
    ihave Hr := (pointsTo_read_all (Pipeline.ucRefs τ sig) (fun b => ((c : Thread nD τ).1, b)) (V10 m (outs m) c) s') $$ [Hh HSI]
    · isplitl [Hh] <;> iassumption
    icases Hr with ⟨%h, HSI⟩
    imodintro
    isplitr
    · ipureintro
      exact h
    · iexact HSI

/-- The frame: the arguments end as launched. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run _ _ _).mono (fun r h => ⟨fun c =>
    ⟨(h.1 c (Proc.devRef .tc main_arg0) (Finset.mem_filter.mpr ⟨StableHlo.devRef_mem_tcRefs main_arg0, by decide⟩)).trans (V10_main_arg0 m (outs m) c),
      (h.1 c (Proc.devRef .tc main_arg1) (Finset.mem_filter.mpr ⟨StableHlo.devRef_mem_tcRefs main_arg1, by decide⟩)).trans (V10_main_arg1 m (outs m) c),
      (h.1 c (Proc.devRef .tc main_arg2) (Finset.mem_filter.mpr ⟨StableHlo.devRef_mem_tcRefs main_arg2, by decide⟩)).trans (V10_main_arg2 m (outs m) c),
      (h.1 c (Proc.devRef .tc main_arg3) (Finset.mem_filter.mpr ⟨StableHlo.devRef_mem_tcRefs main_arg3, by decide⟩)).trans (V10_main_arg3 m (outs m) c),
      (h.1 c (Proc.devRef .tc main_arg4) (Finset.mem_filter.mpr ⟨StableHlo.devRef_mem_tcRefs main_arg4, by decide⟩)).trans (V10_main_arg4 m (outs m) c),
      (h.1 c (Proc.devRef .tc main_arg5) (Finset.mem_filter.mpr ⟨StableHlo.devRef_mem_tcRefs main_arg5, by decide⟩)).trans (V10_main_arg5 m (outs m) c)⟩, h.2⟩) (run m ρ)

end Cert.KernelIdeal.Run

end
-- ==== Proof.Value.Host.lean ====
module

public import proofs.«01_k».proof.Proof.RunIdeal.Run
public import Idealize.ShloMosaic.Lib.Pipeline.ValueKit.Geometry
public import Idealize.ShloMosaic.Lib.StableHlo.Run
public import Idealize.ShloMosaic.Lib.Pointwise

@[expose] public section

set_option maxRecDepth 16384
set_option maxHeartbeats 2000000

noncomputable section

/-! The host's arithmetic between the kernels: the exponent, the two powers of two, and the row of scales. -/

namespace Cert.KernelIdeal.ValueH

open Idealize Idealize.ShloMosaic Idealize.ShloMosaic.TcCoe Idealize.ShloMosaic.StableHlo
open Idealize.ShloMosaic.Pipeline Cert.KernelIdeal Cert.KernelIdeal.Gen Cert.KernelIdeal.Run

variable {F : FTy → Type} [FloatOps F]

/-- How many powers of two, from the least normal one, lie at or below `q`. -/
def count (q : FVec F S_ .f32) : IVec S_ 32 :=
  Host.reduce IntOp.addi
    (extui 32 (cmpf .oge (broadcastInDim S254 ![] bcast_S_S254 q)
      (bitcastToFloat (F := F) .f32 (Host.shli (addi (iotaInDim S254 32 0) (broadcastInDim S254 ![] bcast_S_S254 (constantI S_ 32 1#32)))
        (broadcastInDim S254 ![] bcast_S_S254 (constantI S_ 32 23#32))))) natLt_1_32)
    (constantI S_ 32 0#32) reducesTo_S254_S_d0 h_S_

/-- The magnitude over the largest code. -/
def quot (a : FVec F S_ .f32) : FVec F S_ .f32 := mulf a (constant S_ .f32 0x37924925#32)

/-- The exponent of the scale, zero for a zero, a too small and an infinite magnitude. -/
def expo (a : FVec F S_ .f32) : IVec S_ 32 :=
  select (cmpf .oeq a (constant S_ .f32 0x00000000#32)) (id (constantI S_ 32 0#32))
    (select (ori (cmpi .eq (count (quot a)) (constantI S_ 32 0#32)) (cmpf .oeq (quot a) (constant S_ .f32 0x7F800000#32)))
      (id (constantI S_ 32 0#32)) (subi (count (quot a)) (constantI S_ 32 126#32)))

/-- The power of two an exponent stands for, from its bits. -/
def pow2 (e : IVec S_ 32) : FVec F S_ .f32 :=
  bitcastToFloat (F := F) .f32 (Host.shli (addi e (constantI S_ 32 127#32)) (constantI S_ 32 23#32))

/-- The scale of the codes, and its inverse. -/
def scaleOf (a : FVec F S_ .f32) : FVec F S_ .f32 := pow2 (expo a)
def invOf (a : FVec F S_ .f32) : FVec F S_ .f32 := pow2 (negi (expo a))

/-- The row of three scales the two products take. -/
def row3 (a : FVec F S_ .f32) (ws xs : FVec F S_ .f32) : FVec F S1x3 .f32 :=
  shapeCast S1x3 (concatenate S3 0 [⟨S1, broadcastInDim S1 ![] bcast_S_S1 (invOf a)⟩, ⟨S1, broadcastInDim S1 ![] bcast_S_S1 (mulf (scaleOf a) ws)⟩,
    ⟨S1, broadcastInDim S1 ![] bcast_S_S1 (mulf (scaleOf a) xs)⟩] concatenates_S1_S1_S1_S3_d0) shapeCasts_S3_S1x3

variable (m : (ℓ : Loc nD τ sig) → Buf (Elt F) ℓ) (o : Outs (F := F)) (c : Dev nD)

/-- The magnitude as a number. -/
theorem v3 : V3 m o c main_v3 = shapeCast S_ (V2 m o c main_v2 : FVec F S1x1 .f32) shapeCasts_S1x1_S_ := by
  show StableHlo.after hostOps1 _ _ = _
  simp only [hostOps1]; after_results; rfl

theorem v17 : V3 m o c main_v17 = ori (cmpi .eq (count (quot (V3 m o c main_v3))) (constantI S_ 32 0#32))
    (cmpf .oeq (quot (V3 m o c main_v3)) (constant S_ .f32 0x7F800000#32)) := by
  rw [v3]
  show StableHlo.after hostOps1 _ _ = _
  simp only [hostOps1]; after_results; rfl

theorem v18 : V3 m o c main_v18 = subi (count (quot (V3 m o c main_v3))) (constantI S_ 32 126#32) := by
  rw [v3]
  show StableHlo.after hostOps1 _ _ = _
  simp only [hostOps1]; after_results; rfl

theorem c5 : V3 m o c main_c_5 = (constantI S_ 32 0#32 : IVec S_ 32) := by
  show StableHlo.after hostOps1 _ _ = _
  simp only [hostOps1]; after_results

theorem v19 : V4 m o c main_v19 = select (V3 m o c main_v17 : IVec S_ 1) (id (V3 m o c main_c_5 : IVec S_ 32)) (V3 m o c main_v18 : IVec S_ 32) := by
  show StableHlo.after hostOps1_1 _ _ = _
  simp only [hostOps1_1, TRef.binary, TRef.ternary, TRef.unary, TRef.toBuf, TRef.ofBuf, cast_eq]; after_results

theorem v20 : V5 m o c main_v20 = cmpf .oeq (V4 m o c main_v3 : FVec F S_ .f32) (constant S_ .f32 0x00000000#32) := by
  show StableHlo.after hostOps1_2 _ _ = _
  simp only [hostOps1_2]; after_results

theorem c7 : V5 m o c main_c_7 = (constantI S_ 32 0#32 : IVec S_ 32) := by
  show StableHlo.after hostOps1_2 _ _ = _
  simp only [hostOps1_2]; after_results

theorem v21 : V6 m o c main_v21 = select (V5 m o c main_v20 : IVec S_ 1) (id (V5 m o c main_c_7 : IVec S_ 32)) (V5 m o c main_v19 : IVec S_ 32) := by
  show StableHlo.after hostOps1_3 _ _ = _
  simp only [hostOps1_3, TRef.binary, TRef.ternary, TRef.unary, TRef.toBuf, TRef.ofBuf, cast_eq]; after_results

/-- The exponent is `expo` of the magnitude. -/
theorem v21_eq : V6 m o c main_v21 = expo (V3 m o c main_v3) := by
  rw [v21, v20, c7, V5_of m o c main_v19 (by decide), v19, V4_of m o c main_v3 (by decide), v17, v18, c5]
  rfl

theorem v24 : V7 m o c main_v24 = scaleOf (V3 m o c main_v3 : FVec F S_ .f32) := by
  unfold scaleOf; rw [← v21_eq]
  show StableHlo.after hostOps1_4 _ _ = _
  simp only [hostOps1_4]; after_results; rfl

/-- The last operations of the stretch: the row is put together from its three entries. -/
theorem last_eq (W : Valuation τ sig (Elt F)) :
    StableHlo.after (hostOps1_4.drop 16) W main_v35
      = (shapeCast S1x3 (concatenate S3 0 [⟨S1, (W main_v31 : FVec F S1 .f32)⟩, ⟨S1, (W main_v32 : FVec F S1 .f32)⟩, ⟨S1, (W main_v33 : FVec F S1 .f32)⟩]
          concatenates_S1_S1_S1_S3_d0) shapeCasts_S3_S1x3 : FVec F S1x3 .f32) := by
  simp only [hostOps1_4, List.drop_succ_cons, List.drop_zero]; after_results
  rfl

theorem entry0 (W : Valuation τ sig (Elt F)) :
    StableHlo.after (hostOps1_4.take 16) W main_v31 = (broadcastInDim S1 ![] bcast_S_S1 (pow2 (negi (W main_v21 : IVec S_ 32)) : FVec F S_ .f32) : FVec F S1 .f32) := by
  simp only [hostOps1_4, List.take_succ_cons, List.take_zero]; after_results
  rfl

theorem entry1 (W : Valuation τ sig (Elt F)) :
    StableHlo.after (hostOps1_4.take 16) W main_v32
      = (broadcastInDim S1 ![] bcast_S_S1 (mulf (pow2 (W main_v21 : IVec S_ 32)) (W main_arg4 : FVec F S_ .f32)) : FVec F S1 .f32) := by
  simp only [hostOps1_4, List.take_succ_cons, List.take_zero]; after_results
  rfl

theorem entry2 (W : Valuation τ sig (Elt F)) :
    StableHlo.after (hostOps1_4.take 16) W main_v33
      = (broadcastInDim S1 ![] bcast_S_S1 (mulf (pow2 (W main_v21 : IVec S_ 32)) (W main_arg2 : FVec F S_ .f32)) : FVec F S1 .f32) := by
  simp only [hostOps1_4, List.take_succ_cons, List.take_zero]; after_results
  rfl

theorem v35 : V7 m o c main_v35 = row3 (V3 m o c main_v3 : FVec F S_ .f32) (V6 m o c main_arg4) (V6 m o c main_arg2) := by
  unfold row3 scaleOf invOf; rw [← v21_eq]
  refine (last_eq (StableHlo.after (hostOps1_4.take 16) (V6 m o c))).trans ?_
  rw [entry0, entry1, entry2]

end Cert.KernelIdeal.ValueH
end
-- ==== Proof.Value.Amax.lean ====
module

public import proofs.«01_k».proof.Proof.RunIdeal.Amax
public import Idealize.ShloMosaic.Lib.Pipeline.ValueKit.Geometry
public import Idealize.ShloMosaic.Lib.Pipeline.ValueKit.Acc
public import Idealize.ShloMosaic.Lib.Pointwise
public import Idealize.ShloMosaic.PureOps.Ideal.Laws

@[expose] public section

set_option maxRecDepth 16384
set_option maxHeartbeats 2000000

noncomputable section

/-! The largest magnitude over the reals: what the first kernel leaves. -/

namespace Cert.KernelIdeal.ValueA

open Idealize Idealize.ShloMosaic Idealize.ShloMosaic.TcCoe
open Idealize.ShloMosaic.Pipeline Cert.KernelIdeal Cert.KernelIdeal.Gen Cert.KernelIdeal.Run

/-- The bits of minus infinity read as the least extended real. -/
theorem bot32 : Ideal.ofBits FTy.f32 0xFF800000#32 = ⊥ := by simp [Ideal.ofBits, Ideal.ieee]
theorem bot16 : Ideal.ofBits FTy.bf16 0xFF80#16 = ⊥ := by simp [Ideal.ofBits, Ideal.ieee]

/-- The magnitude of an entry. -/
abbrev mag (x : EReal) : EReal := FloatOps.absf (F := Ideal) (φ := .bf16) x

/-- Row `16 g + r` of a block. -/
def row (g : Fin 32) (r : Fin 16) : Fin 512 := ⟨g.val * 16 + r.val, by have := r.isLt; have := g.isLt; omega⟩

/-- A block's maxima are below `z` exactly when the magnitudes in the rows they stand for are. -/
theorem pay1_le (x : Vec Ideal S512x10240 .bf16) (y : S16x10240.Idx) (z : EReal) :
    (k0_pay1 x y : EReal) ≤ z ↔ ∀ g : Fin 32, mag (x (ix2 (row g (y 0)) (y 1))) ≤ z := by
  unfold k0_pay1
  simp only [pointwise]
  rw [bot16, Finset.fold_max_le]
  exact ⟨fun h g => h.2 g (Finset.mem_univ _), fun h => ⟨bot_le, fun g _ => h g⟩⟩

/-- The written maximum is below `z` exactly when every running maximum is. -/
theorem pay4_le (x : Vec Ideal S16x10240 .bf16) (z : EReal) :
    (k0_pay4 x : EReal) ≤ z ↔ ∀ (r : Fin 16) (k : Fin 10240), (x (ix2 r k) : EReal) ≤ z := by
  unfold k0_pay4
  simp only [pointwise]
  rw [bot32, Finset.fold_max_le]
  exact ⟨fun h r k => h.2 (r, k) (Finset.mem_univ _), fun h => ⟨bot_le, fun p _ => h p.1 p.2⟩⟩

theorem pay3_apply (x : Vec Ideal S512x10240 .bf16) (a : Vec Ideal S16x10240 .bf16) (y : S16x10240.Idx) :
    (k0_pay3 x a y : EReal) = max (a y : EReal) (k0_pay1 x y) := by
  unfold k0_pay3
  simp only [pointwise]

theorem pay2_apply (x : Vec Ideal S512x10240 .bf16) (y : S16x10240.Idx) :
    (k0_pay2 x y : EReal) = k0_pay1 x y := by
  unfold k0_pay2
  simp only [pointwise]

/-- Where the blocks lie, at each grid point. -/
theorem e0 : ∀ t : Fin cfg0.N, win0_0.index t = ![t.val, 0] := (by decide +kernel : ∀ t : Fin grid0.N, _)

variable (V : (c : Dev nD) → (b : Ref sig .tc) → Buf (Elt Ideal) ((c : Thread nD τ).loc b))

/-- The magnitudes in the rows of block `n` that running maximum `y` stands for are below `z`. -/
def Below (c : Dev nD) (y : S16x10240.Idx) (z : EReal) (n : ℕ) : Prop :=
  ∀ g : Fin 32, mag (K0.iblk V c 0 (K0.pt n) (ix2 (row g (y 0)) (y 1))) ≤ z

/-- The running maxima after point `n`. -/
theorem acc_le (c : Dev nD) (y : S16x10240.Idx) (z : EReal) (n : ℕ) :
    (K0.acc V c n y : EReal) ≤ z ↔ ∀ n' ≤ n, Below V c y z n' := by
  induction n with
  | zero =>
    refine (iff_of_eq (congrArg (fun e : EReal => e ≤ z) (pay2_apply (K0.iblk V c 0 (K0.pt 0)) y))).trans ?_
    rw [pay1_le]
    exact ⟨fun h n' hn => by obtain rfl := Nat.le_zero.mp hn; exact h, fun h => h 0 le_rfl⟩
  | succ n ih =>
    refine (iff_of_eq (congrArg (fun e : EReal => e ≤ z) (pay3_apply (K0.iblk V c 0 (K0.pt (n + 1))) (K0.acc V c n) y))).trans ?_
    rw [max_le_iff, ih, pay1_le]
    constructor
    · intro h n' hn
      rcases Nat.lt_or_ge n n' with hlt | hle
      · obtain rfl : n' = n + 1 := by omega
        exact h.2
      · exact h.1 n' hle
    · exact fun h => ⟨fun n' hn => h n' (by omega), h (n + 1) le_rfl⟩

/-- The block's entry, in the array. -/
theorem iblk_eq (c : Dev nD) (n : ℕ) (hn : n < 24) (r : Fin 512) (k : Fin 10240) :
    K0.iblk V c 0 (K0.pt n) (ix2 r k) = V c main_v0 (ix2 ⟨512 * n + r.val, by have := r.isLt; omega⟩ k) := by
  blk_simp [K0.iblk]
  refine congrArg (V c main_v0) ?_
  have hp : (K0.pt n).val = n := Nat.mod_eq_of_lt hn
  blk_ext [e0, hp]

/-- The block and the row in it where row `r` of the array lies. -/
theorem row_eq (r : Fin 12288) : ∃ (n : ℕ) (hn : n ≤ 23) (g : Fin 32) (q : Fin 16),
    (⟨512 * n + (row g q).val, by have := (row g q).isLt; omega⟩ : Fin 12288) = r :=
  ⟨r.val / 512, by have := r.isLt; omega, ⟨r.val / 16 % 32, Nat.mod_lt _ (by decide)⟩, ⟨r.val % 16, Nat.mod_lt _ (by decide)⟩,
    Fin.ext (by simp only [row]; omega)⟩

/-- The largest of the running maxima after point 23 is below `z` exactly when every magnitude is. -/
theorem le_iff (c : Dev nD) (z : EReal) (n : ℕ) (h23 : n = 23) :
    (k0_pay4 (K0.acc V c n) : EReal) ≤ z ↔ ∀ (r : Fin 12288) (k : Fin 10240), mag (V c main_v0 (ix2 r k)) ≤ z := by
  rw [pay4_le]
  constructor
  · intro h r k
    obtain ⟨n', hn, g, q, rfl⟩ := row_eq r
    exact (congrArg (fun e => mag e ≤ z) (iblk_eq V c n' (by omega) (row g q) k)).mp ((acc_le V c (ix2 q k) z n).mp (h q k) n' (by omega) g)
  · intro h r k
    refine (acc_le V c (ix2 r k) z n).mpr fun n' hn g => ?_
    exact (congrArg (fun e => mag e ≤ z) (iblk_eq V c n' (by omega) (row g r) k)).mpr (h _ k)

/-- The cell is written back once, after the last point. -/
theorem whole1 : (cfg0.win 1).WholeAt ⟨23, by decide⟩ := by
  refine ⟨(flush0_1 _).mpr rfl, fun t ht => Fin.ext ?_, ?_⟩
  · have := (flush0_1 t).mp ht
    have h2 : t.val < 24 := t.isLt
    show t.val = 23
    omega
  · show ∀ a, win0_1.index ⟨23, by decide⟩ a = 0 ∧ win0_1.xsize (grid0.coords ⟨23, by decide⟩) a = win0_1.shape.size a
    decide +kernel

/-- An output cell that always holds `s` ends at `s`. -/
theorem final_of (c : Dev nD) (s : Elt Ideal (cfg0.win 1).elt) (hs : ∀ t, (K0.dat V c).after 1 t = fun _ => s) :
    (K0.dat V c).arrAt 1 cfg0.N = fun _ => s := by
  refine (K0.dat V c).arrAt_eq_of_after_last 1 ⟨23, by decide⟩ whole1 _ fun j => ?_
  rw [hs]
  rfl

/-- The kernel leaves the largest magnitude. -/
theorem final (c : Dev nD) : (K0.dat V c).arrAt 1 cfg0.N = fun _ => k0_pay4 (K0.acc V c 23) :=
  final_of V c _ (K0.after_1 V c)

end Cert.KernelIdeal.ValueA
end
-- ==== Proof.Value.Dgrad.lean ====
module

public import proofs.«01_k».proof.Proof.RunIdeal.Dgrad
public import Idealize.ShloMosaic.Lib.Pipeline.ValueKit.Geometry
public import Idealize.ShloMosaic.Lib.Pipeline.ValueKit.Acc
public import Idealize.ShloMosaic.Lib.Pointwise

@[expose] public section

set_option maxRecDepth 16384
set_option maxHeartbeats 2000000

noncomputable section

/-! The codes and the input gradient over the reals: what the second kernel leaves. -/

namespace Cert.KernelIdeal.ValueD

open Idealize Idealize.ShloMosaic Idealize.ShloMosaic.TcCoe
open Idealize.ShloMosaic.Pipeline Cert.KernelIdeal Cert.KernelIdeal.Gen Cert.KernelIdeal.Run

/-- A scaled entry clipped to the code format's range. -/
def clip (x : Ideal .f32) : Ideal .f32 :=
  FloatOps.minimumf (Scalar.ofBits (F := Ideal) .f32 0x47600000#32) (FloatOps.maximumf (Scalar.ofBits (F := Ideal) .f32 0xC7600000#32) x)

/-- The code of an entry `x` under the inverse scale `a`. -/
def Q (x : Ideal .bf16) (a : Ideal .f32) : Ideal .fp8e5m2 := clip (FloatOps.mulf (φ := .f32) x a)

/-- The codes a block is cast to, entry by entry. -/
theorem pay1_apply (x : Vec Ideal S1024x640 .bf16) (a : Ideal .f32) (y : S1024x640.Idx) : k1_pay1 x a y = Q (x y) a := by
  unfold k1_pay1 Q clip
  simp only [pointwise]

/-- The transposed codes. -/
theorem pay2_apply (x : Vec Ideal S1024x640 .bf16) (a : Ideal .f32) (y : S640x1024.Idx) : k1_pay2 x a y = Q (x (ix2 (y 1) (y 0))) a := by
  unfold k1_pay2
  simp only [pointwise, pay1_apply]

/-- A block of the input gradient. -/
theorem pay4_apply (q : Vec Ideal S1x1024x10240 .fp8e5m2) (w : Vec Ideal S10240x512 .fp8e4m3) (a : Ideal .f32) (y : S1024x512.Idx) :
    (k1_pay4 q w a y : EReal) = (∑ k : Fin 10240, (q (ix3 0 (y 0) k) : EReal) * w (ix2 k (y 1))) * (a : EReal) := by
  unfold k1_pay4
  simp only [pointwise]
  rw [zero_add]

/-- Where the blocks of the windows lie, at each grid point. -/
theorem e0 : ∀ t : Fin cfg1.N, win1_0.index t = ![0, 0] := (by decide +kernel : ∀ t : Fin grid1.N, _)
theorem e1 : ∀ t : Fin cfg1.N, win1_1.index (K1.cap t) = ![min (t.val / 16) 11, if t.val / 16 < 12 then t.val % 16 else 15] := (by decide +kernel : ∀ t : Fin grid1.N, win1_1.index (K1.cap t) = ![min (t.val / 16) 11, if t.val / 16 < 12 then t.val % 16 else 15])
theorem e2 : ∀ t : Fin cfg1.N, win1_2.index t = ![0, if 0 < t.val / 16 then t.val % 16 else 0] := (by decide +kernel : ∀ t : Fin grid1.N, win1_2.index t = ![0, if 0 < t.val / 16 then t.val % 16 else 0])
theorem e3 : ∀ t : Fin cfg1.N, win1_3.index t = ![t.val / 16 - 1, if 0 < t.val / 16 then t.val % 16 else 0] := (by decide +kernel : ∀ t : Fin grid1.N, win1_3.index t = ![t.val / 16 - 1, if 0 < t.val / 16 then t.val % 16 else 0])
theorem e4 : ∀ t : Fin cfg1.N, win1_4.index t = ![min (t.val / 16) 11, if t.val / 16 < 12 then t.val % 16 else 15] := (by decide +kernel : ∀ t : Fin grid1.N, win1_4.index t = ![min (t.val / 16) 11, if t.val / 16 < 12 then t.val % 16 else 15])
theorem e5 : ∀ t : Fin cfg1.N, win1_5.index t = ![if t.val / 16 < 12 then t.val % 16 else 15, min (t.val / 16) 11] := (by decide +kernel : ∀ t : Fin grid1.N, win1_5.index t = ![if t.val / 16 < 12 then t.val % 16 else 15, min (t.val / 16) 11])

variable (V : (c : Dev nD) → (b : Ref sig .tc) → Buf (Elt Ideal) ((c : Thread nD τ).loc b))

/-- The row of scales is seen whole at every point. -/
theorem scal_eq (c : Dev nD) (t : Fin cfg1.N) (k : Fin 3) : scal (K1.scs V c t) k = V c main_v35 (ix2 0 k) := by
  unfold scal K1.scs
  blk_simp [K1.iblk]
  have h0 : (win1_0.blk t).view.emb (ix2 0 k) = ix2 0 k := by blk_ext [e0]
  rw [h0]

/-- The codes, entry by entry, from the gradient's rows and the scales. -/
def codes (d : Vec Ideal S12288x10240 .bf16) (sc : Vec Ideal S1x3 .f32) : Vec Ideal S12288x10240 .fp8e5m2 := fun i => Q (d i) (sc (ix2 0 0))

/-- The array of codes the kernel leaves. -/
theorem final4 (c : Dev nD) : (K1.dat V c).arrAt 4 cfg1.N = codes (V c main_v0) (V c main_v35) := by
  refine (K1.dat V c).arrAt_eq_of_covers 4 _ (by decide +kernel) fun t hf y => ?_
  blk_simp
  rw [K1.after_4]
  unfold K1.cd codes
  rw [pay1_apply, scal_eq]
  blk_simp [K1.iblk]
  have h : (win1_1.blk (K1.cap t)).view.emb y = (win1_4.blk t).view.emb y := by blk_ext [e1, e4]
  rw [h]

/-- The array of transposed codes the kernel leaves. -/
theorem final5 (c : Dev nD) : (K1.dat V c).arrAt 5 cfg1.N = fun i : S10240x12288.Idx => codes (V c main_v0) (V c main_v35) (ix2 (i 1) (i 0)) := by
  refine (K1.dat V c).arrAt_eq_of_covers 5 _ (by decide +kernel) fun t hf y => ?_
  blk_simp
  rw [K1.after_5]
  unfold codes
  rw [pay2_apply, scal_eq]
  blk_simp [K1.iblk]
  have h : (win1_1.blk (K1.cap t)).view.emb (ix2 (y 1) (y 0)) = ix2 ((win1_5.blk t).view.emb y 1) ((win1_5.blk t).view.emb y 0) := by blk_ext [e1, e5]
  rw [h]
  rfl

/-- A code of row block `m`, from the gradient's rows. -/
theorem rowCode_eq (c : Dev nD) (m : ℕ) (hm : m < 12) (r : Fin 1024) (k : Fin 10240) :
    K1.rowCode V c m r k = codes (V c main_v0) (V c main_v35) (ix2 ⟨1024 * m + r.val, by have := r.isLt; omega⟩ k) := by
  have hk := k.isLt
  have hp : (K1.pt (16 * m + k.val / 640)).val = 16 * m + k.val / 640 := by
    show (16 * m + k.val / 640) % 208 = _
    omega
  unfold K1.rowCode
  generalize hT : K1.pt (16 * m + k.val / 640) = T at hp
  have hc : K1.cap T = T := K1.cap_of_lt T (by omega)
  unfold K1.cd codes
  rw [pay1_apply, scal_eq]
  blk_simp [K1.iblk]
  have h : (win1_1.blk T).view.emb (ix2 r ⟨k.val % 640, Nat.mod_lt _ (by decide)⟩) = ix2 ⟨1024 * m + r.val, by have := r.isLt; omega⟩ k := by
    have e1' := e1 T
    rw [hc] at e1'
    blk_ext [e1']
    rw [if_pos (by omega)]; omega
  rw [h]

/-- The input gradient, entry by entry, from the codes, the weight codes and the scales. -/
def D (q : Vec Ideal S12288x10240 .fp8e5m2) (w : Vec Ideal S10240x8192 .fp8e4m3) (sc : Vec Ideal S1x3 .f32) : Vec Ideal S12288x8192 .bf16 :=
  fun i => (∑ k : Fin 10240, (q (ix2 (i 0) k) : EReal) * w (ix2 k (i 1))) * (sc (ix2 0 1) : EReal)

/-- The array of the input gradient the kernel leaves. -/
theorem final3 (c : Dev nD) : (K1.dat V c).arrAt 3 cfg1.N = D (codes (V c main_v0) (V c main_v35)) (V c main_arg3) (V c main_v35) := by
  refine (K1.dat V c).arrAt_eq_of_covers 3 _ (by decide +kernel) fun t hf y => ?_
  have ht : t.val < 208 := t.isLt
  have h16 : 16 ≤ t.val := by
    have := K1.flush_3 t
    rw [this] at hf
    exact of_decide_eq_true hf
  blk_simp
  rw [K1.after_3]
  unfold D
  refine (pay4_apply _ _ _ _).trans ?_
  rw [scal_eq]
  unfold K1.codesOf
  have h3 : ∀ k : Fin 10240, K1.rowCode V c (t.val / 16 - 1) (y 0) k = codes (V c main_v0) (V c main_v35) (ix2 ((win1_3.blk t).view.emb y 0) k) := fun k => by
    refine (rowCode_eq V c (t.val / 16 - 1) (by omega) (y 0) k).trans (congrArg (codes (V c main_v0) (V c main_v35)) ?_)
    blk_ext [e3]
  have h2 : ∀ k : Fin 10240, K1.iblk V c 2 t (ix2 k (y 1)) = V c main_arg3 (ix2 k ((win1_3.blk t).view.emb y 1)) := fun k => by
    blk_simp [K1.iblk]
    have h : (win1_2.blk t).view.emb (ix2 k (y 1)) = ix2 k ((win1_3.blk t).view.emb y 1) := by blk_ext [e2, e3]
    rw [h]
    rfl
  simp only [h2]
  exact congrArg (· * (V c main_v35 (ix2 0 1) : EReal)) (Finset.sum_congr rfl fun k _ => congrArg (· * (V c main_arg3 (ix2 k ((win1_3.blk t).view.emb y 1)) : EReal)) (h3 k))

end Cert.KernelIdeal.ValueD
end
-- ==== Proof.Value.Wgrad.lean ====
module

public import proofs.«01_k».proof.Proof.RunIdeal.Wgrad
public import Idealize.ShloMosaic.Lib.Pipeline.ValueKit.Geometry
public import Idealize.ShloMosaic.Lib.Pipeline.ValueKit.Acc
public import Idealize.ShloMosaic.Lib.Pointwise

@[expose] public section

set_option maxRecDepth 16384
set_option maxHeartbeats 2000000

noncomputable section

/-! The weight gradient over the reals: what the third kernel leaves. -/

namespace Cert.KernelIdeal.ValueW

open Idealize Idealize.ShloMosaic Idealize.ShloMosaic.TcCoe
open Idealize.ShloMosaic.Pipeline Cert.KernelIdeal Cert.KernelIdeal.Gen Cert.KernelIdeal.Run

/-- The accumulated weight gradient, entry by entry, from the transposed codes, the activations' codes, the gradient so far and the
    row of scales. -/
def G (ct : Vec Ideal S10240x12288 .fp8e5m2) (x : Vec Ideal S12288x8192 .fp8e4m3) (mg : Vec Ideal S10240x8192 .f32)
    (sc : Vec Ideal S1x3 .f32) : Vec Ideal S10240x8192 .f32 :=
  fun i => mg i + (∑ k : Fin 12288, ct (ix2 (i 0) k) * x (ix2 k (i 1))) * sc (ix2 0 2)

/-- Where the blocks of the five windows lie, at each grid point. -/
theorem e0 : ∀ t : Fin cfg2.N, win2_0.index t = ![0, 0] := (by decide +kernel : ∀ t : Fin grid2.N, _)
theorem e1 : ∀ t : Fin cfg2.N, win2_1.index t = ![(grid2.coords t 0).val, 0] := (by decide +kernel : ∀ t : Fin grid2.N, _)
theorem e2 : ∀ t : Fin cfg2.N, win2_2.index t = ![0, (grid2.coords t 1).val] := (by decide +kernel : ∀ t : Fin grid2.N, _)
theorem e3 : ∀ t : Fin cfg2.N, win2_3.index t = ![(grid2.coords t 0).val, (grid2.coords t 1).val] := (by decide +kernel : ∀ t : Fin grid2.N, _)
theorem e4 : ∀ t : Fin cfg2.N, win2_4.index t = ![(grid2.coords t 0).val, (grid2.coords t 1).val] := (by decide +kernel : ∀ t : Fin grid2.N, _)

variable (V : (c : Dev nD) → (b : Ref sig .tc) → Buf (Elt Ideal) ((c : Thread nD τ).loc b))

/-- The array the weight-gradient kernel leaves is `G` of its four arrays. -/
theorem final (c : Dev nD) : (K2.dat V c).arrAt 4 cfg2.N = G (V c main_v36_2) (V c main_v1) (V c main_arg5) (V c main_v35) := by
  refine (K2.dat V c).arrAt_eq_of_covers 4 _ (by decide +kernel) fun t hf y => ?_
  blk_simp
  rw [K2.after_4]
  unfold k2_pay1 G scal
  simp only [pointwise]
  blk_simp [K2.iblk, e0, e1, e2, e3, e4]
  rw [zero_add]
  have h3 : (win2_3.blk t).view.emb y = (win2_4.blk t).view.emb y := by blk_ext [e3, e4]
  have h0 : (win2_0.blk t).view.emb (ix2 0 2) = ix2 0 2 := by blk_ext [e0]
  have h1 : ∀ k, (win2_1.blk t).view.emb (ix2 (y 0) k) = ix2 ((win2_4.blk t).view.emb y 0) k := fun k => by blk_ext [e1, e4]
  have h2 : ∀ k, (win2_2.blk t).view.emb (ix2 k (y 1)) = ix2 k ((win2_4.blk t).view.emb y 1) := fun k => by blk_ext [e2, e4]
  rw [h3, h0]
  simp only [h1, h2]
  rfl

end Cert.KernelIdeal.ValueW
end
-- ==== Proof.Value.Kernel.lean ====
module

public import proofs.«01_k».proof.Proof.Value.Host
public import proofs.«01_k».proof.Proof.Value.Amax
public import proofs.«01_k».proof.Proof.Value.Dgrad
public import proofs.«01_k».proof.Proof.Value.Wgrad

@[expose] public section

set_option maxRecDepth 16384
set_option maxHeartbeats 2000000

noncomputable section

/-! The kernel's five results over the reals, entry by entry, from the arguments. -/

namespace Cert.KernelIdeal.ValueK

open Idealize Idealize.ShloMosaic Idealize.ShloMosaic.TcCoe
open Idealize.ShloMosaic.Pipeline Cert.KernelIdeal Cert.KernelIdeal.Gen Cert.KernelIdeal.Run Cert.KernelIdeal.ValueH

theorem row3_at (a ws xs : FVec Ideal S_ .f32) (k : Fin 3) :
    row3 a ws xs (ix2 0 k) = if k.val < 1 then invOf a ix0 else if k.val - 1 < 1 then mulf (scaleOf a) ws ix0 else mulf (scaleOf a) xs ix0 := by
  unfold row3
  simp only [pointwise]
  rfl

/-- The three entries of the row of scales. -/
theorem row3_0 (a ws xs : FVec Ideal S_ .f32) : row3 a ws xs (ix2 0 0) = invOf a ix0 := (row3_at a ws xs 0).trans (if_pos (by decide))
theorem row3_1 (a ws xs : FVec Ideal S_ .f32) : row3 a ws xs (ix2 0 1) = mulf (scaleOf a) ws ix0 :=
  (row3_at a ws xs 1).trans ((if_neg (by decide)).trans (if_pos (by decide)))
theorem row3_2 (a ws xs : FVec Ideal S_ .f32) : row3 a ws xs (ix2 0 2) = mulf (scaleOf a) xs ix0 :=
  (row3_at a ws xs 2).trans ((if_neg (by decide)).trans (if_neg (by decide)))

variable (m : (ℓ : Loc nD τ sig) → Buf (Elt Ideal) ℓ) (c : Dev nD)

/-- The arguments: the gradient, the activations' codes and scale, the weights' codes and scale, the weight gradient so far. -/
abbrev dy : FVec Ideal S4x3072x10240 .bf16 := m ((c : Thread nD τ).loc main_arg0)
abbrev xq : FVec Ideal S4x3072x8192 .fp8e4m3 := m ((c : Thread nD τ).loc main_arg1)
abbrev xs : FVec Ideal S_ .f32 := m ((c : Thread nD τ).loc main_arg2)
abbrev wq : FVec Ideal S10240x8192 .fp8e4m3 := m ((c : Thread nD τ).loc main_arg3)
abbrev ws : FVec Ideal S_ .f32 := m ((c : Thread nD τ).loc main_arg4)
abbrev mg : FVec Ideal S10240x8192 .f32 := m ((c : Thread nD τ).loc main_arg5)

/-- The rows the kernels take are the batches' rows, in order. -/
theorem V1_v0 : V1 m c main_v0 = (shapeCast S12288x10240 (dy m c) shapeCasts_S4x3072x10240_S12288x10240 : FVec Ideal S12288x10240 .bf16) := by
  show StableHlo.after hostOps0 _ _ = _
  simp only [hostOps0]; after_results; rfl
theorem V1_v1 : V1 m c main_v1 = (shapeCast S12288x8192 (xq m c) shapeCasts_S4x3072x8192_S12288x8192 : FVec Ideal S12288x8192 .fp8e4m3) := by
  show StableHlo.after hostOps0 _ _ = _
  simp only [hostOps0]; after_results; rfl

/-- A buffer no operation before the second kernel writes holds there what it held after the first. -/
theorem V7_of_V2 (o : Outs (F := Ideal)) (b : Ref sig .tc) (h1 : b ∉ hostOps1_W) (h2 : b ∉ hostOps1_1_W) (h3 : b ∉ hostOps1_2_W)
    (h4 : b ∉ hostOps1_3_W) (h5 : b ∉ hostOps1_4_W) : V7 m o c b = V2 m o c b := by
  rw [V7_of m o c b h5, V6_of m o c b h4, V5_of m o c b h3, V4_of m o c b h2, V3_of m o c b h1]

/-- The largest magnitude of the gradient. -/
def amax : FVec Ideal S_ .f32 := fun _ => k0_pay4 (K0.acc (Ve0 m) c 23)

/-- It is below `z` exactly when every entry's magnitude is. -/
theorem amax_le (z : EReal) :
    (amax m c ix0 : EReal) ≤ z ↔ ∀ (b : Fin 4) (s : Fin 3072) (k : Fin 10240), ValueA.mag (dy m c (ix3 b s k)) ≤ z := by
  refine (ValueA.le_iff (Ve0 m) c z 23 rfl).trans ?_
  have hd : ∀ (r : Fin 12288) (k : Fin 10240), Ve0 m c main_v0 (ix2 r k)
      = dy m c (ix3 ⟨r.val / 3072, by have := r.isLt; omega⟩ ⟨r.val % 3072, Nat.mod_lt _ (by decide)⟩ k) := fun r k => by
    rw [show Ve0 m c main_v0 = _ from V1_v0 m c]
    simp only [pointwise]
  constructor
  · intro h b s k
    have h1 := h ⟨b.val * 3072 + s.val, by have := b.isLt; have := s.isLt; omega⟩ k
    rw [hd] at h1
    have hb : (⟨(b.val * 3072 + s.val) / 3072, by have := b.isLt; have := s.isLt; omega⟩ : Fin 4) = b := Fin.ext (by have := s.isLt; simp only; omega)
    have hs : (⟨(b.val * 3072 + s.val) % 3072, Nat.mod_lt _ (by decide)⟩ : Fin 3072) = s := Fin.ext (by have := s.isLt; simp only; omega)
    exact (congrArg (fun i => ValueA.mag (dy m c i) ≤ z) (congrArg₂ (fun b' s' => (ix3 b' s' k : S4x3072x10240.Idx)) hb hs)).mp h1
  · intro h r k
    rw [hd]
    exact h _ _ _

/-- After the first kernel the magnitude is a number. -/
theorem V3_v3 : V3 m (outs m) c main_v3 = amax m c := by
  rw [v3, V2_at, ValueA.final]
  rfl

theorem V6_arg4 : V6 m (outs m) c main_arg4 = ws m c := by
  rw [V6_of _ _ _ _ (by decide), V5_of _ _ _ _ (by decide), V4_of _ _ _ _ (by decide), V3_of _ _ _ _ (by decide), V2_of _ _ _ _ (by decide), V1_of _ _ _ (by decide)]
theorem V6_arg2 : V6 m (outs m) c main_arg2 = xs m c := by
  rw [V6_of _ _ _ _ (by decide), V5_of _ _ _ _ (by decide), V4_of _ _ _ _ (by decide), V3_of _ _ _ _ (by decide), V2_of _ _ _ _ (by decide), V1_of _ _ _ (by decide)]

/-- The row of scales, and the codes' scale. -/
theorem V7_v35 : V7 m (outs m) c main_v35 = row3 (amax m c) (ws m c) (xs m c) := by
  rw [v35, V3_v3, V6_arg4, V6_arg2]
theorem V7_v24 : V7 m (outs m) c main_v24 = scaleOf (amax m c) := by
  rw [v24, V3_v3]

/-- What the second kernel finds. -/
theorem VeA_eq (b : Ref sig .tc) : VeA m c b = V7 m (outs m) c b := congrFun (V7_outs m c).symm _
theorem VeA_v0 : VeA m c main_v0 = (shapeCast S12288x10240 (dy m c) shapeCasts_S4x3072x10240_S12288x10240 : FVec Ideal S12288x10240 .bf16) := by
  rw [VeA_eq, V7_of_V2 _ _ _ _ (by decide) (by decide) (by decide) (by decide) (by decide), V2_of _ _ _ _ (by decide), V1_v0]
theorem VeA_v35 : VeA m c main_v35 = row3 (amax m c) (ws m c) (xs m c) := by
  rw [VeA_eq, V7_v35]
theorem VeA_arg3 : VeA m c main_arg3 = wq m c := by
  rw [VeA_eq, V7_of_V2 _ _ _ _ (by decide) (by decide) (by decide) (by decide) (by decide), V2_of _ _ _ _ (by decide), V1_of _ _ _ (by decide)]

/-- What the third kernel finds. -/
theorem VeB_eq (b : Ref sig .tc) : VeB m c b = V8 m (outs m) c b := congrFun (V8_outs m c).symm _
theorem VeB_v1 : VeB m c main_v1 = (shapeCast S12288x8192 (xq m c) shapeCasts_S4x3072x8192_S12288x8192 : FVec Ideal S12288x8192 .fp8e4m3) := by
  rw [VeB_eq, V8_of _ _ _ _ (by decide), V7_of_V2 _ _ _ _ (by decide) (by decide) (by decide) (by decide) (by decide), V2_of _ _ _ _ (by decide), V1_v1]
theorem VeB_v35 : VeB m c main_v35 = row3 (amax m c) (ws m c) (xs m c) := by
  rw [VeB_eq, V8_of _ _ _ _ (by decide), V7_v35]
theorem VeB_arg5 : VeB m c main_arg5 = mg m c := by
  rw [VeB_eq, V8_of _ _ _ _ (by decide), V7_of_V2 _ _ _ _ (by decide) (by decide) (by decide) (by decide) (by decide), V2_of _ _ _ _ (by decide), V1_of _ _ _ (by decide)]
theorem VeB_v36_2 : VeB m c main_v36_2 = fun i => ValueD.codes (VeA m c main_v0) (VeA m c main_v35) (ix2 (i 1) (i 0)) := by
  rw [VeB_eq, V8_at_2, ValueD.final5]
  rfl

/-! ## The results -/

/-- The code of the gradient's entry. -/
def code (b : Fin 4) (s : Fin 3072) (k : Fin 10240) : EReal := ValueD.Q (dy m c (ix3 b s k)) (invOf (amax m c) ix0)

/-- The codes in rows. -/
theorem codes_at (r : Fin 12288) (k : Fin 10240) : ValueD.codes (VeA m c main_v0) (VeA m c main_v35) (ix2 r k)
    = code m c ⟨r.val / 3072, by have := r.isLt; omega⟩ ⟨r.val % 3072, Nat.mod_lt _ (by decide)⟩ k := by
  unfold ValueD.codes code
  rw [VeA_v0, VeA_v35, row3_0]
  simp only [pointwise]

/-- Result 3, the largest magnitude, and result 5, the codes' scale. -/
theorem res_v3 : V10 m (outs m) c main_v3 = amax m c := by
  rw [V10_of _ _ _ _ (by decide), V9_of _ _ _ _ (by decide), V8_of _ _ _ _ (by decide), V7_of _ _ _ _ (by decide), V6_of _ _ _ _ (by decide),
    V5_of _ _ _ _ (by decide), V4_of _ _ _ _ (by decide), V3_v3]
theorem res_v24 : V10 m (outs m) c main_v24 = scaleOf (amax m c) := by
  rw [V10_of _ _ _ _ (by decide), V9_of _ _ _ _ (by decide), V8_of _ _ _ _ (by decide), V7_v24]

/-- Batch and position of row `3072 b + s`. -/
theorem batch_eq (b : Fin 4) (s : Fin 3072) (h : (b.val * 3072 + s.val) / 3072 < 4) : (⟨(b.val * 3072 + s.val) / 3072, h⟩ : Fin 4) = b :=
  Fin.ext (by have := s.isLt; simp only; omega)
theorem pos_eq (b : Fin 4) (s : Fin 3072) (h : (b.val * 3072 + s.val) % 3072 < 3072) : (⟨(b.val * 3072 + s.val) % 3072, h⟩ : Fin 3072) = s :=
  Fin.ext (by have := s.isLt; simp only; omega)

/-- Result 4, the codes. -/
theorem res_v39 (b : Fin 4) (s : Fin 3072) (k : Fin 10240) : (V10 m (outs m) c main_v39 (ix3 b s k) : EReal) = code m c b s k := by
  have h : V10 m (outs m) c main_v39 = (shapeCast S4x3072x10240 (V9 m (outs m) c main_v36_1 : FVec Ideal S12288x10240 .fp8e5m2) shapeCasts_S12288x10240_S4x3072x10240 : FVec Ideal S4x3072x10240 .fp8e5m2) := by
    show StableHlo.after hostOps3 _ _ = _
    simp only [hostOps3]; after_results; rfl
  rw [h, V9_of _ _ _ _ (by decide), V8_at_1, ValueD.final4]
  simp only [pointwise]
  refine (codes_at m c _ k).trans ?_
  rw [batch_eq, pos_eq]

/-- The codes of row `3072 b + s`. -/
theorem codes_row (b : Fin 4) (s : Fin 3072) (h : b.val * 3072 + s.val < 12288) (k : Fin 10240) :
    ValueD.codes (VeA m c main_v0) (VeA m c main_v35) (ix2 ⟨b.val * 3072 + s.val, h⟩ k) = code m c b s k := by
  rw [codes_at, batch_eq, pos_eq]

/-- An entry of the batches laid out again from the rows. -/
theorem shapeCast3_at (x : FVec Ideal S12288x8192 .bf16) (b : Fin 4) (s : Fin 3072) (n : Fin 8192) :
    shapeCast S4x3072x8192 x shapeCasts_S12288x8192_S4x3072x8192 (ix3 b s n) = x (ix2 ⟨b.val * 3072 + s.val, by have := b.isLt; have := s.isLt; omega⟩ n) := by
  simp only [pointwise]

theorem D_at (q : Vec Ideal S12288x10240 .fp8e5m2) (w : Vec Ideal S10240x8192 .fp8e4m3) (sc : Vec Ideal S1x3 .f32) (r : Fin 12288) (n : Fin 8192) :
    (ValueD.D q w sc (ix2 r n) : EReal) = (∑ k : Fin 10240, (q (ix2 r k) : EReal) * w (ix2 k n)) * (sc (ix2 0 1) : EReal) := rfl

/-- Result 1, the input gradient. -/
theorem res_v38 (b : Fin 4) (s : Fin 3072) (n : Fin 8192) : (V10 m (outs m) c main_v38 (ix3 b s n) : EReal)
    = (∑ k : Fin 10240, code m c b s k * (wq m c (ix2 k n) : EReal)) * (mulf (scaleOf (amax m c)) (ws m c) ix0 : EReal) := by
  have h : V10 m (outs m) c main_v38 = (shapeCast S4x3072x8192 (V9 m (outs m) c main_v36_0 : FVec Ideal S12288x8192 .bf16) shapeCasts_S12288x8192_S4x3072x8192 : FVec Ideal S4x3072x8192 .bf16) := by
    show StableHlo.after hostOps3 _ _ = _
    simp only [hostOps3]; after_results; rfl
  rw [h, V9_of _ _ _ _ (by decide), V8_at_0, ValueD.final3]
  refine (shapeCast3_at _ b s n).trans ?_
  rw [D_at, VeA_arg3]
  refine congrArg₂ (fun x y : EReal => x * y) (Finset.sum_congr rfl fun k _ => congrArg (fun x : EReal => x * wq m c (ix2 k n)) (codes_row m c b s _ k)) ?_
  rw [VeA_v35, row3_1]

/-- Result 2, the accumulated weight gradient. -/
theorem res_v37 (i : Fin 10240) (n : Fin 8192) : (V10 m (outs m) c main_v37 (ix2 i n) : EReal)
    = mg m c (ix2 i n) + (∑ r : Fin 12288, code m c ⟨r.val / 3072, by have := r.isLt; omega⟩ ⟨r.val % 3072, Nat.mod_lt _ (by decide)⟩ i
        * (xq m c (ix3 ⟨r.val / 3072, by have := r.isLt; omega⟩ ⟨r.val % 3072, Nat.mod_lt _ (by decide)⟩ n) : EReal))
      * (mulf (scaleOf (amax m c)) (xs m c) ix0 : EReal) := by
  rw [V10_of _ _ _ _ (by decide), V9_at, ValueW.final]
  unfold ValueW.G
  rw [VeB_arg5, VeB_v35, row3_2, VeB_v1, VeB_v36_2]
  refine congrArg (fun e : EReal => _ + e * _) (Finset.sum_congr rfl fun r _ => ?_)
  simp only [pointwise]
  exact congrArg (fun e : EReal => e * _) (codes_at m c r i)

end Cert.KernelIdeal.ValueK
end
-- ==== Proof.Value.Ref.lean ====
module

public import proofs.«01_k».proof.Proof.Gen.ReferenceIdeal.Run
public import Idealize.ShloMosaic.Lib.Pipeline.ValueKit.Geometry
public import Idealize.ShloMosaic.Lib.Pipeline.ValueKit.Acc
public import Idealize.ShloMosaic.Lib.Pointwise
public import Idealize.ShloMosaic.PureOps.Ideal.Laws

@[expose] public section

set_option maxRecDepth 16384
set_option maxHeartbeats 2000000

noncomputable section

/-! The reference's five results over the reals, entry by entry, from its arguments. -/

namespace Cert.ReferenceIdeal.ValueR

open Idealize Idealize.ShloMosaic Idealize.ShloMosaic.TcCoe Idealize.ShloMosaic.StableHlo
open Idealize.ShloMosaic.Pipeline Cert.ReferenceIdeal Cert.ReferenceIdeal.Gen

/-- How many powers of two, from the least normal one, lie at or below `q`. -/
def count (q : FVec Ideal S_ .f32) : IVec S_ 32 :=
  Host.reduce IntOp.addi
    (extui 32 (cmpf .oge (broadcastInDim S254 ![] bcast_S_S254 q)
      (bitcastToFloat (F := Ideal) .f32 (Host.shli (addi (iotaInDim S254 32 0) (broadcastInDim S254 ![] bcast_S_S254 (constantI S_ 32 1#32)))
        (broadcastInDim S254 ![] bcast_S_S254 (constantI S_ 32 23#32))))) natLt_1_32)
    (constantI S_ 32 0#32) reducesTo_S254_S_d0 h_S_

/-- The magnitude over the largest code. -/
def quot (a : FVec Ideal S_ .f32) : FVec Ideal S_ .f32 := mulf a (constant S_ .f32 0x37924925#32)

/-- The exponent of the scale, zero for a zero, a too small and an infinite magnitude. -/
def expo (a : FVec Ideal S_ .f32) : IVec S_ 32 :=
  select (cmpf .oeq a (constant S_ .f32 0x00000000#32)) (id (constantI S_ 32 0#32))
    (select (ori (cmpi .eq (count (quot a)) (constantI S_ 32 0#32)) (cmpf .oeq (quot a) (constant S_ .f32 0x7F800000#32)))
      (id (constantI S_ 32 0#32)) (subi (count (quot a)) (constantI S_ 32 126#32)))

/-- The power of two an exponent stands for, from its bits. -/
def pow2 (e : IVec S_ 32) : FVec Ideal S_ .f32 :=
  bitcastToFloat (F := Ideal) .f32 (Host.shli (addi e (constantI S_ 32 127#32)) (constantI S_ 32 23#32))

/-- The scale of the codes, and its inverse. -/
def scaleOf (a : FVec Ideal S_ .f32) : FVec Ideal S_ .f32 := pow2 (expo a)
def invOf (a : FVec Ideal S_ .f32) : FVec Ideal S_ .f32 := pow2 (negi (expo a))

/-- The largest magnitude of a gradient. -/
def amaxOf (d : FVec Ideal S4x3072x10240 .bf16) : FVec Ideal S_ .f32 :=
  Host.reduce FloatOps.maximumf (Host.absf (extf .f32 d bitsLt_bf16_f32)) (constant S_ .f32 0xFF800000#32) reducesTo_S4x3072x10240_S_d0_1_2 h_S_

theorem bot32 : Ideal.ofBits FTy.f32 0xFF800000#32 = ⊥ := by simp [Ideal.ofBits, Ideal.ieee]

/-- The largest magnitude is below `z` exactly when every entry's magnitude is. -/
theorem amaxOf_le (d : FVec Ideal S4x3072x10240 .bf16) (z : EReal) :
    (amaxOf d ix0 : EReal) ≤ z ↔ ∀ (b : Fin 4) (s : Fin 3072) (k : Fin 10240), FloatOps.absf (F := Ideal) (φ := .f32) (d (ix3 b s k)) ≤ z := by
  unfold amaxOf
  conv_lhs => simp only [pointwise]
  rw [bot32, Finset.fold_max_le]
  simp only [Finset.mem_univ, forall_true_left, true_implies, Prod.forall, bot_le, true_and]

variable (m : (ℓ : Loc nD τ sig) → Buf (Elt Ideal) ℓ) (c : Dev nD)

/-- The arguments: the gradient, the activations' codes and scale, the weights' codes and scale, the weight gradient so far. -/
abbrev dy : FVec Ideal S4x3072x10240 .bf16 := m ((c : Thread nD τ).loc main_arg0)
abbrev xq : FVec Ideal S4x3072x8192 .fp8e4m3 := m ((c : Thread nD τ).loc main_arg1)
abbrev wq : FVec Ideal S10240x8192 .fp8e4m3 := m ((c : Thread nD τ).loc main_arg3)

/-- Every window of the one-point region of casts starts at the origin. -/
theorem e0 : ∀ t : Fin cfg0.N, win0_0.index t = ![0, 0, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0, 0] := (by decide +kernel : ∀ t : Fin grid0.N, _)
theorem e3 : ∀ t : Fin cfg0.N, win0_3.index t = ![0, 0, 0] := (by decide +kernel : ∀ t : Fin grid0.N, _)
theorem e4 : ∀ t : Fin cfg0.N, win0_4.index t = ![0, 0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0, 0] := (by decide +kernel : ∀ t : Fin grid0.N, _)

/-- A scaled entry clipped to the code format's range. -/
def clip (x : Ideal .f32) : Ideal .f32 :=
  FloatOps.minimumf (Scalar.ofBits (F := Ideal) .f32 0x47600000#32) (FloatOps.maximumf (Scalar.ofBits (F := Ideal) .f32 0xC7600000#32) x)

/-- The code of an entry `x` under the inverse scale `a`. -/
def Q (x : Ideal .bf16) (a : Ideal .f32) : Ideal .fp8e5m2 := clip (FloatOps.mulf (φ := .f32) x a)

/-- What the region takes: the scaled and clipped gradient. -/
theorem V_clipped (i : S4x3072x10240.Idx) : V m c (Pipeline.arrRef spec0 0) i = Q (dy m c i) (invOf (amaxOf (dy m c)) ix0) := by
  have h : V m c (Pipeline.arrRef spec0 0) = (minimumf (broadcastInDim S4x3072x10240 ![] bcast_S_S4x3072x10240 (constant S_ .f32 0x47600000#32))
      (maximumf (broadcastInDim S4x3072x10240 ![] bcast_S_S4x3072x10240 (constant S_ .f32 0xC7600000#32))
        (mulf (extf .f32 (dy m c) bitsLt_bf16_f32) (broadcastInDim S4x3072x10240 ![] bcast_S_S4x3072x10240 (invOf (amaxOf (dy m c)))))) : FVec Ideal S4x3072x10240 .f32) := by
    show Gen.V0 m c (Proc.devRef .tc main_v30) = _
    simp only [Gen.V0, Gen.hostOps0, Gen.hostOps0_1, Gen.hostOps0_2, Gen.hostOps0_3, Gen.hostOps0_4, Gen.hostOps0_5, TRef.binary, TRef.ternary, TRef.unary, TRef.toBuf, TRef.ofBuf, cast_eq, List.flatten_cons, List.flatten_nil, List.append_nil, List.cons_append, List.nil_append]
    after_results_simp <;> rfl
  rw [h]
  unfold Q clip
  simp only [pointwise]

/-- The code of a gradient's entry. -/
def codeOf (d : FVec Ideal S4x3072x10240 .bf16) (b : Fin 4) (s : Fin 3072) (k : Fin 10240) : EReal := Q (d (ix3 b s k)) (invOf (amaxOf d) ix0)

/-- Over the reals the region leaves the clipped gradient as the codes, -/
theorem reg0 (b : Fin 4) (s : Fin 3072) (k : Fin 10240) : (Value.reg_main_v31_0 m c (ix3 b s k) : EReal) = codeOf (dy m c) b s k := by
  have h : Value.reg_main_v31_0 m c = fun i => V m c (Pipeline.arrRef spec0 0) i := by
    unfold Value.reg_main_v31_0
    refine (dats m 0 c).arrAt_eq_of_covers 3 _ (by decide +kernel) fun t hf y => ?_
    blk_simp
    rw [after0_3]
    frame_out
    unfold k0_pay1
    simp only [pointwise]
    blk_simp [iblk]
    congr 1; blk_ext [e0, e3]
  rw [h]
  exact V_clipped m c _

/-- and the same values again, to be multiplied; -/
theorem reg1 (b : Fin 4) (s : Fin 3072) (k : Fin 10240) : (Value.reg_main_v31_1 m c (ix3 b s k) : EReal) = codeOf (dy m c) b s k := by
  have h : Value.reg_main_v31_1 m c = fun i => V m c (Pipeline.arrRef spec0 0) i := by
    unfold Value.reg_main_v31_1
    refine (dats m 0 c).arrAt_eq_of_covers 4 _ (by decide +kernel) fun t hf y => ?_
    blk_simp
    rw [after0_4]
    frame_out
    unfold k0_pay2 k0_pay1
    simp only [pointwise]
    blk_simp [iblk]
    congr 1; blk_ext [e0, e4]
  rw [h]
  exact V_clipped m c _

/-- the weights' codes, -/
theorem reg2 : Value.reg_main_v31_2 m c = wq m c := by
  unfold Value.reg_main_v31_2
  refine (dats m 0 c).arrAt_eq_of_covers 5 _ (by decide +kernel) fun t hf y => ?_
  blk_simp
  rw [after0_5]
  frame_out
  unfold k0_pay3
  simp only [pointwise]
  blk_simp [iblk]
  rw [V_main_arg3]
  congr 1; blk_ext [e1, e5]

/-- and the activations' codes. -/
theorem reg3 : Value.reg_main_v31_3 m c = xq m c := by
  unfold Value.reg_main_v31_3
  refine (dats m 0 c).arrAt_eq_of_covers 6 _ (by decide +kernel) fun t hf y => ?_
  blk_simp
  rw [after0_6]
  frame_out
  unfold k0_pay4
  simp only [pointwise]
  blk_simp [iblk]
  rw [V_main_arg1]
  congr 1; blk_ext [e2, e6]

/-- An entry of the input gradient. -/
theorem dx_at (q : FVec Ideal S4x3072x10240 .bf16) (w : FVec Ideal S10240x8192 .bf16) (sc : FVec Ideal S_ .f32) (b : Fin 4) (s : Fin 3072) (n : Fin 8192) :
    (truncf (F := Ideal) .bf16 (mulf (Host.dotGeneral dot_S4x3072x10240_S10240x8192_S4x3072x8192_2_0_01_1_n_n none q w)
      (broadcastInDim S4x3072x8192 ![] bcast_S_S4x3072x8192 sc)) bitsLt_bf16_f32 (ix3 b s n) : EReal)
    = (∑ k : Fin 10240, (q (ix3 b s k) : EReal) * w (ix2 k n)) * (sc ix0 : EReal) := by
  simp only [pointwise, zero_add]

/-- An entry of the accumulated weight gradient. -/
theorem dw_at (q : FVec Ideal S4x3072x10240 .bf16) (x : FVec Ideal S4x3072x8192 .bf16) (g : FVec Ideal S10240x8192 .f32) (sc : FVec Ideal S_ .f32) (i : Fin 10240) (n : Fin 8192) :
    (addf (F := Ideal) g (mulf (Host.dotGeneral dot_S4x3072x10240_S4x3072x8192_S10240x8192_01_01_2_2_n_n none q x)
      (broadcastInDim S10240x8192 ![] bcast_S_S10240x8192 sc)) (ix2 i n) : EReal)
    = g (ix2 i n) + (∑ b : Fin 4, ∑ s : Fin 3072, (q (ix3 b s i) : EReal) * x (ix3 b s n)) * (sc ix0 : EReal) := by
  simp only [pointwise, zero_add]

end Cert.ReferenceIdeal.ValueR
end
-- ==== Proof.Value.Equation.lean ====
module

public import proofs.«01_k».proof.Proof.Value.Kernel
public import proofs.«01_k».proof.Proof.Value.Ref

@[expose] public section

set_option maxRecDepth 16384
set_option maxHeartbeats 2000000

noncomputable section

/-! The kernel's five results and the reference's are equal. -/

namespace Cert.Equation

open Idealize Idealize.ShloMosaic Idealize.ShloMosaic.TcCoe Idealize.SL.Sem
open Cert.KernelIdeal Cert.KernelIdeal.Gen Cert.KernelIdeal.Run Cert.KernelIdeal.ValueK

/-- The two programs' scales are the same function of the largest magnitude. -/
theorem scaleOf_eq (a : FVec Ideal S_ .f32) : ReferenceIdeal.ValueR.scaleOf a = ValueH.scaleOf a := rfl
theorem invOf_eq (a : FVec Ideal S_ .f32) : ReferenceIdeal.ValueR.invOf a = ValueH.invOf a := rfl

variable (m : (ℓ : Loc nD τ sig) → Buf (Elt Ideal) ℓ) (c : Dev nD)

/-- The tiled maximum is the maximum over the whole gradient: both are below the same numbers. -/
theorem amax_eq : ReferenceIdeal.ValueR.amaxOf (dy m c) = amax m c := by
  funext i
  obtain rfl : i = ix0 := funext fun a => a.elim0
  exact le_antisymm ((ReferenceIdeal.ValueR.amaxOf_le (dy m c) _).mpr ((amax_le m c _).mp le_rfl))
    ((amax_le m c _).mpr ((ReferenceIdeal.ValueR.amaxOf_le (dy m c) _).mp le_rfl))

/-- The codes are equal. -/
theorem code_eq (b : Fin 4) (s : Fin 3072) (k : Fin 10240) :
    ReferenceIdeal.ValueR.codeOf (dy m c) b s k = code m c b s k := by
  unfold ReferenceIdeal.ValueR.codeOf code
  rw [amax_eq, invOf_eq]
  rfl

/-- A sum over the rows is the sum over the batches of the sums over their positions. -/
theorem sum_rows (f : Fin 4 → Fin 3072 → EReal) :
    ∑ r : Fin 12288, f ⟨r.val / 3072, by have := r.isLt; omega⟩ ⟨r.val % 3072, Nat.mod_lt _ (by decide)⟩ = ∑ b : Fin 4, ∑ s : Fin 3072, f b s :=
  (Equiv.sum_comp (finProdFinEquiv (m := 4) (n := 3072)).symm (fun p : Fin 4 × Fin 3072 => f p.1 p.2)).trans (Fintype.sum_prod_type _)

/-- The reference's sum of products is the kernel's. -/
theorem dx_eq (q : FVec Ideal S4x3072x10240 .bf16) (hq : ∀ b s k, (q (ix3 b s k) : EReal) = code m c b s k)
    (w : FVec Ideal S10240x8192 .bf16) (hw : w = (wq m c : S10240x8192.Idx → EReal))
    (a : FVec Ideal S_ .f32) (ha : a = mulf (ReferenceIdeal.ValueR.scaleOf (ReferenceIdeal.ValueR.amaxOf (dy m c))) (ws m c)) (b : Fin 4) (s : Fin 3072) (n : Fin 8192) :
    (∑ k : Fin 10240, (q (ix3 b s k) : EReal) * w (ix2 k n)) * (a ix0 : EReal) = V10 m (outs m) c main_v38 (ix3 b s n) := by
  rw [res_v38, ha, amax_eq, scaleOf_eq, hw]
  simp only [hq]

/-- The reference's accumulated sum of products is the kernel's. -/
theorem dw_eq (q : FVec Ideal S4x3072x10240 .bf16) (hq : ∀ b s k, (q (ix3 b s k) : EReal) = code m c b s k)
    (x : FVec Ideal S4x3072x8192 .bf16) (hx : x = (xq m c : S4x3072x8192.Idx → EReal))
    (a : FVec Ideal S_ .f32) (ha : a = mulf (ReferenceIdeal.ValueR.scaleOf (ReferenceIdeal.ValueR.amaxOf (dy m c))) (xs m c)) (i : Fin 10240) (n : Fin 8192) :
    mg m c (ix2 i n) + (∑ b : Fin 4, ∑ s : Fin 3072, (q (ix3 b s i) : EReal) * x (ix3 b s n)) * (a ix0 : EReal) = V10 m (outs m) c main_v37 (ix2 i n) := by
  rw [res_v37, ha, amax_eq, scaleOf_eq, hx]
  simp only [hq]
  rw [← sum_rows]

/-! ## The runs -/

variable (ρ : Dev nD → PrngReg)

/-- Every run of the kernel ends with its five results at the contents computed item by item, and the arguments as launched. -/
theorem kernel_run : θ_run defs (onTc (τ := τ) (main (F := Ideal))) ⟨m, fun _ => 0, ρ⟩ (fun r => ∀ c : Dev nD,
      r.2.mem ((c.tc : Thread nD τ).loc main_v38) = V10 m (outs m) c main_v38
      ∧ r.2.mem ((c.tc : Thread nD τ).loc main_v37) = V10 m (outs m) c main_v37
      ∧ r.2.mem ((c.tc : Thread nD τ).loc main_v3) = V10 m (outs m) c main_v3
      ∧ r.2.mem ((c.tc : Thread nD τ).loc main_v39) = V10 m (outs m) c main_v39
      ∧ r.2.mem ((c.tc : Thread nD τ).loc main_v24) = V10 m (outs m) c main_v24
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun r h c => by
    have at_ : ∀ b : Ref sig .tc, (Proc.devRef .tc b : DevRef τ sig) ∈ Pipeline.ucRefs τ sig → r.2.mem ((c.tc : Thread nD τ).loc b) = V10 m (outs m) c b :=
      fun b hb => h.1 c (Proc.devRef .tc b) hb
    exact ⟨at_ main_v38 (Finset.mem_filter.mpr ⟨StableHlo.devRef_mem_tcRefs main_v38, by decide⟩),
      at_ main_v37 (Finset.mem_filter.mpr ⟨StableHlo.devRef_mem_tcRefs main_v37, by decide⟩),
      at_ main_v3 (Finset.mem_filter.mpr ⟨StableHlo.devRef_mem_tcRefs main_v3, by decide⟩),
      at_ main_v39 (Finset.mem_filter.mpr ⟨StableHlo.devRef_mem_tcRefs main_v39, by decide⟩),
      at_ main_v24 (Finset.mem_filter.mpr ⟨StableHlo.devRef_mem_tcRefs main_v24, by decide⟩),
      (at_ main_arg0 (Finset.mem_filter.mpr ⟨StableHlo.devRef_mem_tcRefs main_arg0, by decide⟩)).trans (V10_main_arg0 m (outs m) c),
      (at_ main_arg1 (Finset.mem_filter.mpr ⟨StableHlo.devRef_mem_tcRefs main_arg1, by decide⟩)).trans (V10_main_arg1 m (outs m) c),
      (at_ main_arg2 (Finset.mem_filter.mpr ⟨StableHlo.devRef_mem_tcRefs main_arg2, by decide⟩)).trans (V10_main_arg2 m (outs m) c),
      (at_ main_arg3 (Finset.mem_filter.mpr ⟨StableHlo.devRef_mem_tcRefs main_arg3, by decide⟩)).trans (V10_main_arg3 m (outs m) c),
      (at_ main_arg4 (Finset.mem_filter.mpr ⟨StableHlo.devRef_mem_tcRefs main_arg4, by decide⟩)).trans (V10_main_arg4 m (outs m) c),
      (at_ main_arg5 (Finset.mem_filter.mpr ⟨StableHlo.devRef_mem_tcRefs main_arg5, by decide⟩)).trans (V10_main_arg5 m (outs m) c)⟩) (run m ρ)

/-- Every run of the reference from the same arguments ends with the same five results, and its arguments as launched. -/
theorem reference_run (m' : (ℓ : Loc ReferenceIdeal.nD ReferenceIdeal.τ ReferenceIdeal.sig) → Buf (Elt Ideal) ℓ) (ρ' : Dev ReferenceIdeal.nD → PrngReg)
    (hm : ∀ c : Dev nD, m' ((c.tc : Thread ReferenceIdeal.nD ReferenceIdeal.τ).loc ReferenceIdeal.main_arg0) = m ((c.tc : Thread nD τ).loc main_arg0)
      ∧ m' ((c.tc : Thread ReferenceIdeal.nD ReferenceIdeal.τ).loc ReferenceIdeal.main_arg1) = m ((c.tc : Thread nD τ).loc main_arg1)
      ∧ m' ((c.tc : Thread ReferenceIdeal.nD ReferenceIdeal.τ).loc ReferenceIdeal.main_arg2) = m ((c.tc : Thread nD τ).loc main_arg2)
      ∧ m' ((c.tc : Thread ReferenceIdeal.nD ReferenceIdeal.τ).loc ReferenceIdeal.main_arg3) = m ((c.tc : Thread nD τ).loc main_arg3)
      ∧ m' ((c.tc : Thread ReferenceIdeal.nD ReferenceIdeal.τ).loc ReferenceIdeal.main_arg4) = m ((c.tc : Thread nD τ).loc main_arg4)
      ∧ m' ((c.tc : Thread ReferenceIdeal.nD ReferenceIdeal.τ).loc ReferenceIdeal.main_arg5) = m ((c.tc : Thread nD τ).loc main_arg5)) :
    θ_run (ReferenceIdeal.defs (F := Ideal)) (onTc (τ := ReferenceIdeal.τ) (ReferenceIdeal.main (F := Ideal))) ⟨m', fun _ => 0, ρ'⟩ (fun r => ∀ c : Dev nD,
      r.2.mem ((c.tc : Thread ReferenceIdeal.nD ReferenceIdeal.τ).loc ReferenceIdeal.main_v36) = V10 m (outs m) c main_v38
      ∧ r.2.mem ((c.tc : Thread ReferenceIdeal.nD ReferenceIdeal.τ).loc ReferenceIdeal.main_v41) = V10 m (outs m) c main_v37
      ∧ r.2.mem ((c.tc : Thread ReferenceIdeal.nD ReferenceIdeal.τ).loc ReferenceIdeal.main_v2) = V10 m (outs m) c main_v3
      ∧ r.2.mem ((c.tc : Thread ReferenceIdeal.nD ReferenceIdeal.τ).loc ReferenceIdeal.main_v31_0) = V10 m (outs m) c main_v39
      ∧ r.2.mem ((c.tc : Thread ReferenceIdeal.nD ReferenceIdeal.τ).loc ReferenceIdeal.main_v23) = V10 m (outs m) c main_v24
      ∧ r.2.mem ((c.tc : Thread ReferenceIdeal.nD ReferenceIdeal.τ).loc ReferenceIdeal.main_arg0) = m' ((c.tc : Thread ReferenceIdeal.nD ReferenceIdeal.τ).loc ReferenceIdeal.main_arg0)
      ∧ r.2.mem ((c.tc : Thread ReferenceIdeal.nD ReferenceIdeal.τ).loc ReferenceIdeal.main_arg1) = m' ((c.tc : Thread ReferenceIdeal.nD ReferenceIdeal.τ).loc ReferenceIdeal.main_arg1)
      ∧ r.2.mem ((c.tc : Thread ReferenceIdeal.nD ReferenceIdeal.τ).loc ReferenceIdeal.main_arg2) = m' ((c.tc : Thread ReferenceIdeal.nD ReferenceIdeal.τ).loc ReferenceIdeal.main_arg2)
      ∧ r.2.mem ((c.tc : Thread ReferenceIdeal.nD ReferenceIdeal.τ).loc ReferenceIdeal.main_arg3) = m' ((c.tc : Thread ReferenceIdeal.nD ReferenceIdeal.τ).loc ReferenceIdeal.main_arg3)
      ∧ r.2.mem ((c.tc : Thread ReferenceIdeal.nD ReferenceIdeal.τ).loc ReferenceIdeal.main_arg4) = m' ((c.tc : Thread ReferenceIdeal.nD ReferenceIdeal.τ).loc ReferenceIdeal.main_arg4)
      ∧ r.2.mem ((c.tc : Thread ReferenceIdeal.nD ReferenceIdeal.τ).loc ReferenceIdeal.main_arg5) = m' ((c.tc : Thread ReferenceIdeal.nD ReferenceIdeal.τ).loc ReferenceIdeal.main_arg5)) :=
  (θ_run _ _ _).mono (fun r h c => by
    obtain ⟨h0, h1, h2, h3, h4, h5⟩ := hm c
    have hc : ∀ b s k, ReferenceIdeal.ValueR.codeOf (ReferenceIdeal.ValueR.dy m' c) b s k = code m c b s k := fun b s k =>
      (congrArg (fun d => ReferenceIdeal.ValueR.codeOf d b s k) h0).trans (code_eq m c b s k)
    obtain ⟨r1, r2, r3, r4, r5, ra⟩ := h c
    refine ⟨r1.trans ?_, r2.trans ?_, r3.trans ?_, r4.trans ?_, r5.trans ?_, ra⟩
    · funext i
      obtain ⟨b, s, n, rfl⟩ : ∃ (b : Fin 4) (s : Fin 3072) (n : Fin 8192), i = ix3 b s n := ⟨i 0, i 1, i 2, eq_ix3 i⟩
      refine (ReferenceIdeal.ValueR.dx_at _ _ _ b s n).trans ?_
      exact dx_eq m c _ (fun b s k => (ReferenceIdeal.ValueR.reg1 m' c b s k).trans (hc b s k)) _ ((ReferenceIdeal.ValueR.reg2 m' c).trans h3) _
        (congrArg₂ (fun d w => mulf (ReferenceIdeal.ValueR.scaleOf (ReferenceIdeal.ValueR.amaxOf d)) w) h0 h4) b s n
    · funext i
      obtain ⟨j, n, rfl⟩ : ∃ (j : Fin 10240) (n : Fin 8192), i = ix2 j n := ⟨i 0, i 1, eq_ix2 i⟩
      refine (ReferenceIdeal.ValueR.dw_at _ _ _ _ j n).trans ?_
      rw [h5]
      exact dw_eq m c _ (fun b s k => (ReferenceIdeal.ValueR.reg1 m' c b s k).trans (hc b s k)) _ ((ReferenceIdeal.ValueR.reg3 m' c).trans h1) _
        (congrArg₂ (fun d w => mulf (ReferenceIdeal.ValueR.scaleOf (ReferenceIdeal.ValueR.amaxOf d)) w) h0 h2) j n
    · exact ((congrArg ReferenceIdeal.ValueR.amaxOf h0).trans (amax_eq m c)).trans (res_v3 m c).symm
    · funext i
      obtain ⟨b, s, k, rfl⟩ : ∃ (b : Fin 4) (s : Fin 3072) (k : Fin 10240), i = ix3 b s k := ⟨i 0, i 1, i 2, eq_ix3 i⟩
      exact ((ReferenceIdeal.ValueR.reg0 m' c b s k).trans (hc b s k)).trans (res_v39 m c b s k).symm
    · exact (congrArg (fun d => ReferenceIdeal.ValueR.scaleOf (ReferenceIdeal.ValueR.amaxOf d)) h0).trans
        ((congrArg ReferenceIdeal.ValueR.scaleOf (amax_eq m c)).trans (res_v24 m c).symm)) (ReferenceIdeal.Value.run m' ρ')

end Cert.Equation
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Run.Run
public import proofs.«01_k».proof.Proof.Value.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, by
  refine ⟨fun m ρ _ => Cert.Kernel.Run.frame m ρ, fun m ρ _ => Cert.KernelIdeal.Run.frame m ρ,
    fun m ρ _ => Cert.ReferenceIdeal.Gen.frame m ρ, trivial, ?_⟩
  intro m g m' g' _ hm
  exact ⟨_, _, _, _, _, Cert.Equation.kernel_run m g, Cert.Equation.reference_run m m' g' hm⟩⟩

end Cert.Proof

end
